-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_scores_ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x8192 .f32) (main_arg2 : FVec F S1x1024x64x128 .f32) (main_arg3 : FVec F S1x1024x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S2x1024x8x128 : Shape := ⟨4, ![2, 1024, 8, 128]⟩
abbrev S896x1024 : Shape := ⟨2, ![896, 1024]⟩
abbrev S2 : Shape := ⟨1, ![2]⟩
abbrev S6 : Shape := ⟨1, ![6]⟩
abbrev S_ : Shape := ⟨0, ![]⟩
abbrev S1 : Shape := ⟨1, ![1]⟩
abbrev S1x1024x8x128 : Shape := ⟨4, ![1, 1024, 8, 128]⟩
abbrev S1024x8x128 : Shape := ⟨3, ![1024, 8, 128]⟩
abbrev S256x512 : Shape := ⟨2, ![256, 512]⟩
abbrev S256x1024 : Shape := ⟨2, ![256, 1024]⟩
abbrev S256x1x128 : Shape := ⟨3, ![256, 1, 128]⟩
abbrev S256x128 : Shape := ⟨2, ![256, 128]⟩
abbrev S512x1x128 : Shape := ⟨3, ![512, 1, 128]⟩
abbrev S512x128 : Shape := ⟨2, ![512, 128]⟩
abbrev S256 : Shape := ⟨1, ![256]⟩
abbrev S256x1 : Shape := ⟨2, ![256, 1]⟩
abbrev S128x1024 : Shape := ⟨2, ![128, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S2x1024x8x128, .f32⟩
  | .local _ .vmem, ⟨5, _⟩ => ⟨S1024x1024, .bf16⟩
  | .local _ .vmem, ⟨6, _⟩ => ⟨S896x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v7 : BitVec 32 := Scalar.muli v4 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v5 : BitVec 32 := Scalar.xori v2 c3_i32
  let c1_i32_4 : BitVec 32 := 1#32
  let v9 : BitVec 32 := Scalar.muli v5 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_7 : BitVec 32 := 1#32
  let v11 : BitVec 32 := Scalar.muli v6 c1_i32_7
  let v12 : BitVec 32 := Scalar.addi c0_i32_8 v11
  v12.toNat
def k0_off1 (d0 : Dev nD) : Fin 4 → Nat :=
  let c0_i32_11 : BitVec 32 := 0#32
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.muli v2 c8_i32_10
  let c0_i32_18 : BitVec 32 := 0#32
  ![0, 0, v13.toNat, 0]
def k0_off2 (d0 : Dev nD) : Fin 2 → Nat :=
  let c512_i32_78 : BitVec 32 := 512#32
  let c1_i32_77 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let c0_i32_58 : BitVec 32 := 0#32
  let v58 : BitVec 1 := Scalar.cmpi .eq c4_i32_57 c0_i32_58
  let c1_i32_59 : BitVec 32 := 1#32
  let v59 : BitVec 32 := Scalar.select v58 c1_i32_59 c4_i32_57
  let v60 : BitVec 32 := Scalar.remsi v2 v59
  let c0_i32_61 : BitVec 32 := 0#32
  let v62 : BitVec 1 := Scalar.cmpi .slt v60 c0_i32_61
  let c0_i32_62 : BitVec 32 := 0#32
  let v63 : BitVec 1 := Scalar.cmpi .slt v59 c0_i32_62
  let v64 : BitVec 1 := Scalar.xori v62 v63
  let c0_i32_60 : BitVec 32 := 0#32
  let v61 : BitVec 1 := Scalar.cmpi .ne v60 c0_i32_60
  let v65 : BitVec 1 := Scalar.andi v64 v61
  let v66 : BitVec 32 := Scalar.addi v60 v59
  let v67 : BitVec 32 := Scalar.select v65 v66 v60
  let c1_i32_63 : BitVec 32 := 1#32
  let v68 : BitVec 32 := Scalar.shrsi v67 c1_i32_63
  let v69 : BitVec 32 := Scalar.xori v67 v68
  let c1_i32_64 : BitVec 32 := 1#32
  let v70 : BitVec 32 := Scalar.andi v69 c1_i32_64
  let v100 : BitVec 32 := Scalar.subi c1_i32_77 v70
  let v101 : BitVec 32 := Scalar.muli c512_i32_78 v100
  let c0_i32_85 : BitVec 32 := 0#32
  ![v101.toNat, 0]
def k0_dev4 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_81 : BitVec 32 := 1#32
  let v102 : BitVec 32 := Scalar.muli v4 c1_i32_81
  let v103 : BitVec 32 := Scalar.addi c0_i32_82 v102
  v103.toNat
def k0_off3 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let c0_i32_58 : BitVec 32 := 0#32
  let v58 : BitVec 1 := Scalar.cmpi .eq c4_i32_57 c0_i32_58
  let c1_i32_59 : BitVec 32 := 1#32
  let v59 : BitVec 32 := Scalar.select v58 c1_i32_59 c4_i32_57
  let v60 : BitVec 32 := Scalar.remsi v2 v59
  let c0_i32_61 : BitVec 32 := 0#32
  let v62 : BitVec 1 := Scalar.cmpi .slt v60 c0_i32_61
  let c0_i32_62 : BitVec 32 := 0#32
  let v63 : BitVec 1 := Scalar.cmpi .slt v59 c0_i32_62
  let v64 : BitVec 1 := Scalar.xori v62 v63
  let c0_i32_60 : BitVec 32 := 0#32
  let v61 : BitVec 1 := Scalar.cmpi .ne v60 c0_i32_60
  let v65 : BitVec 1 := Scalar.andi v64 v61
  let v66 : BitVec 32 := Scalar.addi v60 v59
  let v67 : BitVec 32 := Scalar.select v65 v66 v60
  let c1_i32_63 : BitVec 32 := 1#32
  let v68 : BitVec 32 := Scalar.shrsi v67 c1_i32_63
  let v69 : BitVec 32 := Scalar.xori v67 v68
  let c1_i32_64 : BitVec 32 := 1#32
  let v70 : BitVec 32 := Scalar.andi v69 c1_i32_64
  let v89 : BitVec 32 := Scalar.muli c512_i32 v70
  let v126 : Index := Scalar.indexCast v89
  let c0_103 : Index := 0#32
  ![v126.toNat, 0]
def k0_off4 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let c0_i32_58 : BitVec 32 := 0#32
  let v58 : BitVec 1 := Scalar.cmpi .eq c4_i32_57 c0_i32_58
  let c1_i32_59 : BitVec 32 := 1#32
  let v59 : BitVec 32 := Scalar.select v58 c1_i32_59 c4_i32_57
  let v60 : BitVec 32 := Scalar.remsi v2 v59
  let c0_i32_61 : BitVec 32 := 0#32
  let v62 : BitVec 1 := Scalar.cmpi .slt v60 c0_i32_61
  let c0_i32_62 : BitVec 32 := 0#32
  let v63 : BitVec 1 := Scalar.cmpi .slt v59 c0_i32_62
  let v64 : BitVec 1 := Scalar.xori v62 v63
  let c0_i32_60 : BitVec 32 := 0#32
  let v61 : BitVec 1 := Scalar.cmpi .ne v60 c0_i32_60
  let v65 : BitVec 1 := Scalar.andi v64 v61
  let v66 : BitVec 32 := Scalar.addi v60 v59
  let v67 : BitVec 32 := Scalar.select v65 v66 v60
  let c1_i32_63 : BitVec 32 := 1#32
  let v68 : BitVec 32 := Scalar.shrsi v67 c1_i32_63
  let v69 : BitVec 32 := Scalar.xori v67 v68
  let c1_i32_64 : BitVec 32 := 1#32
  let v70 : BitVec 32 := Scalar.andi v69 c1_i32_64
  let v89 : BitVec 32 := Scalar.muli c512_i32 v70
  let c256_i32_108 : BitVec 32 := 256#32
  let c1_i32_107 : BitVec 32 := 1#32
  let c1_i32_65 : BitVec 32 := 1#32
  let v71 : BitVec 32 := Scalar.shrsi v67 c1_i32_65
  let v137 : BitVec 32 := Scalar.subi c1_i32_107 v71
  let v138 : BitVec 32 := Scalar.muli c256_i32_108 v137
  let v139 : BitVec 32 := Scalar.addi v89 v138
  let c0_i32_117 : BitVec 32 := 0#32
  ![v139.toNat, 0]
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v5 : BitVec 32 := Scalar.xori v2 c3_i32
  let c1_i32_113 : BitVec 32 := 1#32
  let v143 : BitVec 32 := Scalar.muli v5 c1_i32_113
  let v144 : BitVec 32 := Scalar.addi c0_i32_114 v143
  v144.toNat
def k0_off5 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let c0_i32_58 : BitVec 32 := 0#32
  let v58 : BitVec 1 := Scalar.cmpi .eq c4_i32_57 c0_i32_58
  let c1_i32_59 : BitVec 32 := 1#32
  let v59 : BitVec 32 := Scalar.select v58 c1_i32_59 c4_i32_57
  let v60 : BitVec 32 := Scalar.remsi v2 v59
  let c0_i32_61 : BitVec 32 := 0#32
  let v62 : BitVec 1 := Scalar.cmpi .slt v60 c0_i32_61
  let c0_i32_62 : BitVec 32 := 0#32
  let v63 : BitVec 1 := Scalar.cmpi .slt v59 c0_i32_62
  let v64 : BitVec 1 := Scalar.xori v62 v63
  let c0_i32_60 : BitVec 32 := 0#32
  let v61 : BitVec 1 := Scalar.cmpi .ne v60 c0_i32_60
  let v65 : BitVec 1 := Scalar.andi v64 v61
  let v66 : BitVec 32 := Scalar.addi v60 v59
  let v67 : BitVec 32 := Scalar.select v65 v66 v60
  let c1_i32_63 : BitVec 32 := 1#32
  let v68 : BitVec 32 := Scalar.shrsi v67 c1_i32_63
  let v69 : BitVec 32 := Scalar.xori v67 v68
  let c1_i32_64 : BitVec 32 := 1#32
  let v70 : BitVec 32 := Scalar.andi v69 c1_i32_64
  let v89 : BitVec 32 := Scalar.muli c512_i32 v70
  let c256_i32 : BitVec 32 := 256#32
  let c1_i32_65 : BitVec 32 := 1#32
  let v71 : BitVec 32 := Scalar.shrsi v67 c1_i32_65
  let v90 : BitVec 32 := Scalar.muli c256_i32 v71
  let v91 : BitVec 32 := Scalar.addi v89 v90
  let v161 : Index := Scalar.indexCast v91
  let c0_131 : Index := 0#32
  ![v161.toNat, 0]
def k0_off6 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let c0_i32_58 : BitVec 32 := 0#32
  let v58 : BitVec 1 := Scalar.cmpi .eq c4_i32_57 c0_i32_58
  let c1_i32_59 : BitVec 32 := 1#32
  let v59 : BitVec 32 := Scalar.select v58 c1_i32_59 c4_i32_57
  let v60 : BitVec 32 := Scalar.remsi v2 v59
  let c0_i32_61 : BitVec 32 := 0#32
  let v62 : BitVec 1 := Scalar.cmpi .slt v60 c0_i32_61
  let c0_i32_62 : BitVec 32 := 0#32
  let v63 : BitVec 1 := Scalar.cmpi .slt v59 c0_i32_62
  let v64 : BitVec 1 := Scalar.xori v62 v63
  let c0_i32_60 : BitVec 32 := 0#32
  let v61 : BitVec 1 := Scalar.cmpi .ne v60 c0_i32_60
  let v65 : BitVec 1 := Scalar.andi v64 v61
  let v66 : BitVec 32 := Scalar.addi v60 v59
  let v67 : BitVec 32 := Scalar.select v65 v66 v60
  let c1_i32_63 : BitVec 32 := 1#32
  let v68 : BitVec 32 := Scalar.shrsi v67 c1_i32_63
  let v69 : BitVec 32 := Scalar.xori v67 v68
  let c1_i32_64 : BitVec 32 := 1#32
  let v70 : BitVec 32 := Scalar.andi v69 c1_i32_64
  let v89 : BitVec 32 := Scalar.muli c512_i32 v70
  let c256_i32 : BitVec 32 := 256#32
  let c1_i32_65 : BitVec 32 := 1#32
  let v71 : BitVec 32 := Scalar.shrsi v67 c1_i32_65
  let v90 : BitVec 32 := Scalar.muli c256_i32 v71
  let v91 : BitVec 32 := Scalar.addi v89 v90
  let c128_i32_110 : BitVec 32 := 128#32
  let c1_i32_109 : BitVec 32 := 1#32
  let c0_i32_67 : BitVec 32 := 0#32
  let v73 : BitVec 1 := Scalar.cmpi .sgt v2 c0_i32_67
  let v74 : BitVec 32 := Scalar.extui v73
  let c0_i32_68 : BitVec 32 := 0#32
  let v75 : BitVec 1 := Scalar.cmpi .slt v2 c0_i32_68
  let v76 : BitVec 32 := Scalar.extui v75
  let v77 : BitVec 32 := Scalar.subi v74 v76
  let c4_i32_66 : BitVec 32 := 4#32
  let c0_i32_69 : BitVec 32 := 0#32
  let v78 : BitVec 1 := Scalar.cmpi .sgt c4_i32_66 c0_i32_69
  let v79 : BitVec 32 := Scalar.extui v78
  let c0_i32_70 : BitVec 32 := 0#32
  let v80 : BitVec 1 := Scalar.cmpi .slt c4_i32_66 c0_i32_70
  let v81 : BitVec 32 := Scalar.extui v80
  let v82 : BitVec 32 := Scalar.subi v79 v81
  let v83 : BitVec 1 := Scalar.cmpi .ne v77 v82
  let v84 : BitVec 32 := Scalar.remsi v2 c4_i32_66
  let c0_i32_71 : BitVec 32 := 0#32
  let v85 : BitVec 1 := Scalar.cmpi .ne v84 c0_i32_71
  let v86 : BitVec 1 := Scalar.andi v83 v85
  let v72 : BitVec 32 := Scalar.divsi v2 c4_i32_66
  let c1_i32_72 : BitVec 32 := 1#32
  let v87 : BitVec 32 := Scalar.subi v72 c1_i32_72
  let v88 : BitVec 32 := Scalar.select v86 v87 v72
  let v140 : BitVec 32 := Scalar.subi c1_i32_109 v88
  let v141 : BitVec 32 := Scalar.muli c128_i32_110 v140
  let v142 : BitVec 32 := Scalar.addi v91 v141
  let c0_i32_138 : BitVec 32 := 0#32
  ![v142.toNat, 0]
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_135 : BitVec 32 := 1#32
  let v172 : BitVec 32 := Scalar.muli v6 c1_i32_135
  let v173 : BitVec 32 := Scalar.addi c0_i32_136 v172
  v173.toNat
def k0_off7 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let c0_i32_58 : BitVec 32 := 0#32
  let v58 : BitVec 1 := Scalar.cmpi .eq c4_i32_57 c0_i32_58
  let c1_i32_59 : BitVec 32 := 1#32
  let v59 : BitVec 32 := Scalar.select v58 c1_i32_59 c4_i32_57
  let v60 : BitVec 32 := Scalar.remsi v2 v59
  let c0_i32_61 : BitVec 32 := 0#32
  let v62 : BitVec 1 := Scalar.cmpi .slt v60 c0_i32_61
  let c0_i32_62 : BitVec 32 := 0#32
  let v63 : BitVec 1 := Scalar.cmpi .slt v59 c0_i32_62
  let v64 : BitVec 1 := Scalar.xori v62 v63
  let c0_i32_60 : BitVec 32 := 0#32
  let v61 : BitVec 1 := Scalar.cmpi .ne v60 c0_i32_60
  let v65 : BitVec 1 := Scalar.andi v64 v61
  let v66 : BitVec 32 := Scalar.addi v60 v59
  let v67 : BitVec 32 := Scalar.select v65 v66 v60
  let c1_i32_63 : BitVec 32 := 1#32
  let v68 : BitVec 32 := Scalar.shrsi v67 c1_i32_63
  let v69 : BitVec 32 := Scalar.xori v67 v68
  let c1_i32_64 : BitVec 32 := 1#32
  let v70 : BitVec 32 := Scalar.andi v69 c1_i32_64
  let v89 : BitVec 32 := Scalar.muli c512_i32 v70
  let c256_i32 : BitVec 32 := 256#32
  let c1_i32_65 : BitVec 32 := 1#32
  let v71 : BitVec 32 := Scalar.shrsi v67 c1_i32_65
  let v90 : BitVec 32 := Scalar.muli c256_i32 v71
  let v91 : BitVec 32 := Scalar.addi v89 v90
  let c128_i32 : BitVec 32 := 128#32
  let c0_i32_67 : BitVec 32 := 0#32
  let v73 : BitVec 1 := Scalar.cmpi .sgt v2 c0_i32_67
  let v74 : BitVec 32 := Scalar.extui v73
  let c0_i32_68 : BitVec 32 := 0#32
  let v75 : BitVec 1 := Scalar.cmpi .slt v2 c0_i32_68
  let v76 : BitVec 32 := Scalar.extui v75
  let v77 : BitVec 32 := Scalar.subi v74 v76
  let c4_i32_66 : BitVec 32 := 4#32
  let c0_i32_69 : BitVec 32 := 0#32
  let v78 : BitVec 1 := Scalar.cmpi .sgt c4_i32_66 c0_i32_69
  let v79 : BitVec 32 := Scalar.extui v78
  let c0_i32_70 : BitVec 32 := 0#32
  let v80 : BitVec 1 := Scalar.cmpi .slt c4_i32_66 c0_i32_70
  let v81 : BitVec 32 := Scalar.extui v80
  let v82 : BitVec 32 := Scalar.subi v79 v81
  let v83 : BitVec 1 := Scalar.cmpi .ne v77 v82
  let v84 : BitVec 32 := Scalar.remsi v2 c4_i32_66
  let c0_i32_71 : BitVec 32 := 0#32
  let v85 : BitVec 1 := Scalar.cmpi .ne v84 c0_i32_71
  let v86 : BitVec 1 := Scalar.andi v83 v85
  let v72 : BitVec 32 := Scalar.divsi v2 c4_i32_66
  let c1_i32_72 : BitVec 32 := 1#32
  let v87 : BitVec 32 := Scalar.subi v72 c1_i32_72
  let v88 : BitVec 32 := Scalar.select v86 v87 v72
  let v92 : BitVec 32 := Scalar.muli c128_i32 v88
  let v93 : BitVec 32 := Scalar.addi v91 v92
  let v190 : Index := Scalar.indexCast v93
  let c0_152 : Index := 0#32
  ![v190.toNat, 0]
def k0_off8 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let c0_i32_58 : BitVec 32 := 0#32
  let v58 : BitVec 1 := Scalar.cmpi .eq c4_i32_57 c0_i32_58
  let c1_i32_59 : BitVec 32 := 1#32
  let v59 : BitVec 32 := Scalar.select v58 c1_i32_59 c4_i32_57
  let v60 : BitVec 32 := Scalar.remsi v2 v59
  let c0_i32_61 : BitVec 32 := 0#32
  let v62 : BitVec 1 := Scalar.cmpi .slt v60 c0_i32_61
  let c0_i32_62 : BitVec 32 := 0#32
  let v63 : BitVec 1 := Scalar.cmpi .slt v59 c0_i32_62
  let v64 : BitVec 1 := Scalar.xori v62 v63
  let c0_i32_60 : BitVec 32 := 0#32
  let v61 : BitVec 1 := Scalar.cmpi .ne v60 c0_i32_60
  let v65 : BitVec 1 := Scalar.andi v64 v61
  let v66 : BitVec 32 := Scalar.addi v60 v59
  let v67 : BitVec 32 := Scalar.select v65 v66 v60
  let c1_i32_63 : BitVec 32 := 1#32
  let v68 : BitVec 32 := Scalar.shrsi v67 c1_i32_63
  let v69 : BitVec 32 := Scalar.xori v67 v68
  let c1_i32_64 : BitVec 32 := 1#32
  let v70 : BitVec 32 := Scalar.andi v69 c1_i32_64
  let v89 : BitVec 32 := Scalar.muli c512_i32 v70
  let c256_i32 : BitVec 32 := 256#32
  let c1_i32_65 : BitVec 32 := 1#32
  let v71 : BitVec 32 := Scalar.shrsi v67 c1_i32_65
  let v90 : BitVec 32 := Scalar.muli c256_i32 v71
  let v91 : BitVec 32 := Scalar.addi v89 v90
  let c128_i32 : BitVec 32 := 128#32
  let c0_i32_67 : BitVec 32 := 0#32
  let v73 : BitVec 1 := Scalar.cmpi .sgt v2 c0_i32_67
  let v74 : BitVec 32 := Scalar.extui v73
  let c0_i32_68 : BitVec 32 := 0#32
  let v75 : BitVec 1 := Scalar.cmpi .slt v2 c0_i32_68
  let v76 : BitVec 32 := Scalar.extui v75
  let v77 : BitVec 32 := Scalar.subi v74 v76
  let c4_i32_66 : BitVec 32 := 4#32
  let c0_i32_69 : BitVec 32 := 0#32
  let v78 : BitVec 1 := Scalar.cmpi .sgt c4_i32_66 c0_i32_69
  let v79 : BitVec 32 := Scalar.extui v78
  let c0_i32_70 : BitVec 32 := 0#32
  let v80 : BitVec 1 := Scalar.cmpi .slt c4_i32_66 c0_i32_70
  let v81 : BitVec 32 := Scalar.extui v80
  let v82 : BitVec 32 := Scalar.subi v79 v81
  let v83 : BitVec 1 := Scalar.cmpi .ne v77 v82
  let v84 : BitVec 32 := Scalar.remsi v2 c4_i32_66
  let c0_i32_71 : BitVec 32 := 0#32
  let v85 : BitVec 1 := Scalar.cmpi .ne v84 c0_i32_71
  let v86 : BitVec 1 := Scalar.andi v83 v85
  let v72 : BitVec 32 := Scalar.divsi v2 c4_i32_66
  let c1_i32_72 : BitVec 32 := 1#32
  let v87 : BitVec 32 := Scalar.subi v72 c1_i32_72
  let v88 : BitVec 32 := Scalar.select v86 v87 v72
  let v92 : BitVec 32 := Scalar.muli c128_i32 v88
  let v93 : BitVec 32 := Scalar.addi v91 v92
  let c0_i32_159 : BitVec 32 := 0#32
  ![v93.toNat, 0]
def k0_dev7 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_157 : BitVec 32 := 1#32
  let v201 : BitVec 32 := Scalar.muli v6 c1_i32_157
  let v202 : BitVec 32 := Scalar.addi c0_i32_158 v201
  v202.toNat
def k0_off9 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let c0_i32_58 : BitVec 32 := 0#32
  let v58 : BitVec 1 := Scalar.cmpi .eq c4_i32_57 c0_i32_58
  let c1_i32_59 : BitVec 32 := 1#32
  let v59 : BitVec 32 := Scalar.select v58 c1_i32_59 c4_i32_57
  let v60 : BitVec 32 := Scalar.remsi v2 v59
  let c0_i32_61 : BitVec 32 := 0#32
  let v62 : BitVec 1 := Scalar.cmpi .slt v60 c0_i32_61
  let c0_i32_62 : BitVec 32 := 0#32
  let v63 : BitVec 1 := Scalar.cmpi .slt v59 c0_i32_62
  let v64 : BitVec 1 := Scalar.xori v62 v63
  let c0_i32_60 : BitVec 32 := 0#32
  let v61 : BitVec 1 := Scalar.cmpi .ne v60 c0_i32_60
  let v65 : BitVec 1 := Scalar.andi v64 v61
  let v66 : BitVec 32 := Scalar.addi v60 v59
  let v67 : BitVec 32 := Scalar.select v65 v66 v60
  let c1_i32_63 : BitVec 32 := 1#32
  let v68 : BitVec 32 := Scalar.shrsi v67 c1_i32_63
  let v69 : BitVec 32 := Scalar.xori v67 v68
  let c1_i32_64 : BitVec 32 := 1#32
  let v70 : BitVec 32 := Scalar.andi v69 c1_i32_64
  let v89 : BitVec 32 := Scalar.muli c512_i32 v70
  let c256_i32 : BitVec 32 := 256#32
  let c1_i32_65 : BitVec 32 := 1#32
  let v71 : BitVec 32 := Scalar.shrsi v67 c1_i32_65
  let v90 : BitVec 32 := Scalar.muli c256_i32 v71
  let v91 : BitVec 32 := Scalar.addi v89 v90
  let c0_i32_176 : BitVec 32 := 0#32
  ![v91.toNat, 0]
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v5 : BitVec 32 := Scalar.xori v2 c3_i32
  let c1_i32_174 : BitVec 32 := 1#32
  let v219 : BitVec 32 := Scalar.muli v5 c1_i32_174
  let v220 : BitVec 32 := Scalar.addi c0_i32_175 v219
  v220.toNat
def k0_off10 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let c0_i32_58 : BitVec 32 := 0#32
  let v58 : BitVec 1 := Scalar.cmpi .eq c4_i32_57 c0_i32_58
  let c1_i32_59 : BitVec 32 := 1#32
  let v59 : BitVec 32 := Scalar.select v58 c1_i32_59 c4_i32_57
  let v60 : BitVec 32 := Scalar.remsi v2 v59
  let c0_i32_61 : BitVec 32 := 0#32
  let v62 : BitVec 1 := Scalar.cmpi .slt v60 c0_i32_61
  let c0_i32_62 : BitVec 32 := 0#32
  let v63 : BitVec 1 := Scalar.cmpi .slt v59 c0_i32_62
  let v64 : BitVec 1 := Scalar.xori v62 v63
  let c0_i32_60 : BitVec 32 := 0#32
  let v61 : BitVec 1 := Scalar.cmpi .ne v60 c0_i32_60
  let v65 : BitVec 1 := Scalar.andi v64 v61
  let v66 : BitVec 32 := Scalar.addi v60 v59
  let v67 : BitVec 32 := Scalar.select v65 v66 v60
  let c1_i32_63 : BitVec 32 := 1#32
  let v68 : BitVec 32 := Scalar.shrsi v67 c1_i32_63
  let v69 : BitVec 32 := Scalar.xori v67 v68
  let c1_i32_64 : BitVec 32 := 1#32
  let v70 : BitVec 32 := Scalar.andi v69 c1_i32_64
  let v89 : BitVec 32 := Scalar.muli c512_i32 v70
  let c0_i32_192 : BitVec 32 := 0#32
  ![v89.toNat, 0]
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_190 : BitVec 32 := 1#32
  let v237 : BitVec 32 := Scalar.muli v4 c1_i32_190
  let v238 : BitVec 32 := Scalar.addi c0_i32_191 v237
  v238.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S1x64x1024x1024, .f32⟩
  | .hbm, ⟨19, _⟩ => ⟨S_, .f32⟩
  | .hbm, ⟨20, _⟩ => ⟨S1x64x1024x1024, .f32⟩
  | .hbm, ⟨21, _⟩ => ⟨S1x64x1024x1024, .f32⟩
  | .hbm, ⟨22, _⟩ => ⟨S1x1x1024x1024, .i1⟩
  | .hbm, ⟨23, _⟩ => ⟨S_, .f32⟩
  | .hbm, ⟨24, _⟩ => ⟨S_, .f32⟩
  | .hbm, ⟨25, _⟩ => ⟨S1x64x1024x1024, .i1⟩
  | .hbm, ⟨26, _⟩ => ⟨S1x64x1024x1024, .f32⟩
  | .hbm, ⟨27, _⟩ => ⟨S1x64x1024x1024, .f32⟩
  | .hbm, ⟨28, _⟩ => ⟨S_, .f32⟩
  | .hbm, ⟨29, _⟩ => ⟨S1x64x1024, .f32⟩
  | .hbm, ⟨30, _⟩ => ⟨S1x64x1024x1, .f32⟩
  | .hbm, ⟨31, _⟩ => ⟨S1x64x1024x1024, .f32⟩
  | .hbm, ⟨32, _⟩ => ⟨S1x64x1024x1024, .f32⟩
  | .hbm, ⟨33, _⟩ => ⟨S1x64x1024x1024, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x64x1024, .f32⟩
  | .hbm, ⟨39, _⟩ => ⟨S1x64x1024x1, .f32⟩
  | .hbm, ⟨40, _⟩ => ⟨S_, .f32⟩
  | .hbm, ⟨41, _⟩ => ⟨S_, .f32⟩
  | .hbm, ⟨42, _⟩ => ⟨S1x64x1024x1, .i1⟩
  | .hbm, ⟨43, _⟩ => ⟨S1x64x1024x1, .f32⟩
  | .hbm, ⟨44, _⟩ => ⟨S1x64x1024x1, .f32⟩
  | .hbm, ⟨45, _⟩ => ⟨S1x64x1024x1024, .f32⟩
  | .hbm, ⟨46, _⟩ => ⟨S1x64x1024x1024, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x64x1024x1024, .i1⟩
  | .hbm, ⟨51, _⟩ => ⟨S1x64x1024x1024, .f32⟩
  | .hbm, ⟨52, _⟩ => ⟨S1x64x1024x1024, .f32⟩
  | .hbm, ⟨53, _⟩ => ⟨S1x64x128x1024, .f32⟩
  | .hbm, ⟨54, _⟩ => ⟨S1x1024x64x128, .f32⟩
  | .hbm, ⟨55, _⟩ => ⟨S1x1024x8192, .f32⟩
  | .hbm, ⟨56, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.AtBits.lean ====
/-
  The two printed kernels have the same text but for the mask's constant, which one of them reads by its name. Read at
  its own bits, the name makes them the same program.
-/
module
public import proofs.«01_k».proof.Defs
public import proofs.«01_k».proof.Proof.Gen.Kernel
public import proofs.«01_k».proof.Proof.Gen.KernelIdeal
@[expose] public section
noncomputable section
namespace Cert.Halving
open Idealize.ShloMosaic
/-- A name, read at the bits that stand there. -/
instance namedBits : Named Bits where
  named _ _ {φ} b := FloatOps.ofBits φ b
set_option maxRecDepth 65536 in
/-- The bodies are the same, -/
theorem body_eq : Cert.KernelIdeal.cc0_body (F := Bits) = Cert.Kernel.cc0_body (F := Bits) := rfl
set_option maxRecDepth 65536 in
/-- and so are the tables that hold them, -/
theorem defs₀_eq : Cert.KernelIdeal.defs₀ (F := Bits) = Cert.Kernel.defs₀ (F := Bits) := by
  unfold Cert.KernelIdeal.defs₀ Cert.Kernel.defs₀
  congr 1
  funext l x
  rcases l with ⟨_|n, h⟩
  · rfl
  · exact absurd h (Nat.not_lt.2 (Nat.le_add_left _ _))
/-- and the whole programs' tables. -/
theorem defs_eq : Cert.KernelIdeal.defs (F := Bits) = Cert.Kernel.defs (F := Bits) := by
  unfold Cert.KernelIdeal.defs Cert.Kernel.defs
  exact congrArg (Pipeline.defs Cert.Kernel.pcfgs) defs₀_eq
end Cert.Halving
end
-- ==== Proof.Mesh.lean ====
/-
The mesh of eight devices as the kernel walks it, and the rows of the partial sum that each device
keeps or gives away at each stage.

A device sits on a cube: bit x is the low bit of `p xor (p >> 1)` for `p = device % 4`, bit y is
`p >> 1`, bit z is `device / 4`. Its three partners differ from it in exactly one of these bits.
At the stages of the halving the device keeps 512, 256 and 128 rows of its partial sum, starting at
`512 x`, `512 x + 256 y` and `512 x + 256 y + 128 z`, and gives away the other half.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Partners -/

/-- The partner across the x, y or z face of the cube. -/
def pal (s : Fin 3) (c : Dev nD) : Dev nD :=
  ⟨(c.val ^^^ (![1, 3, 4] : Fin 3 → ℕ) s) % 8, Nat.mod_lt _ (by decide)⟩

theorem pal_pal (s : Fin 3) (c : Dev nD) : pal s (pal s c) = c := by revert s c; decide

/-- The partner as a permutation of the devices. -/
def palE (s : Fin 3) : Dev nD ≃ Dev nD := ⟨pal s, pal s, pal_pal s, pal_pal s⟩

/-- The bits of a device's place on the cube. -/
def bx (c : Dev nD) : ℕ := ((c.val % 4) ^^^ (c.val % 4 / 2)) % 2
def by' (c : Dev nD) : ℕ := c.val % 4 / 2
def bz (c : Dev nD) : ℕ := c.val / 4

/-- The first row kept, and the first row given away, at each of the three stages. -/
def keep : Fin 3 → Dev nD → ℕ
  | 0, c => 512 * bx c
  | 1, c => 512 * bx c + 256 * by' c
  | 2, c => 512 * bx c + 256 * by' c + 128 * bz c
def give : Fin 3 → Dev nD → ℕ
  | 0, c => 512 * (1 - bx c)
  | 1, c => 512 * bx c + 256 * (1 - by' c)
  | 2, c => 512 * bx c + 256 * by' c + 128 * (1 - bz c)

/-- What a partner gives away is what the device keeps. -/
theorem give_pal (s : Fin 3) (c : Dev nD) : give s (pal s c) = keep s c := by revert s c; decide
theorem keep_pal (s : Fin 3) (c : Dev nD) : keep s (pal s c) = give s c := by revert s c; decide

/-- The device that ends up with the finished row `r`. -/
def owner (r : ℕ) : Dev nD :=
  ⟨(4 * (r / 128 % 2) + 2 * (r / 256 % 2) + ((r / 512 % 2) ^^^ (r / 256 % 2))) % 8, Nat.mod_lt _ (by decide)⟩

theorem owner_keep (c : Dev nD) : ∀ j : Fin 128, owner (keep 2 c + j.val) = c := by
  revert c; decide +kernel

/-! ## The device chains and offsets that the kernel computes -/

theorem dev1_eq (c : Dev nD) : (⟨k0_dev1 c, k0_dev1_lt c⟩ : Dev nD) = pal 0 c := by revert c; decide +kernel
theorem dev2_eq (c : Dev nD) : (⟨k0_dev2 c, k0_dev2_lt c⟩ : Dev nD) = pal 1 c := by revert c; decide +kernel
theorem dev3_eq (c : Dev nD) : (⟨k0_dev3 c, k0_dev3_lt c⟩ : Dev nD) = pal 2 c := by revert c; decide +kernel
theorem dev4_eq (c : Dev nD) : (⟨k0_dev4 c, k0_dev4_lt c⟩ : Dev nD) = pal 0 c := by revert c; decide +kernel
theorem dev5_eq (c : Dev nD) : (⟨k0_dev5 c, k0_dev5_lt c⟩ : Dev nD) = pal 1 c := by revert c; decide +kernel
theorem dev6_eq (c : Dev nD) : (⟨k0_dev6 c, k0_dev6_lt c⟩ : Dev nD) = pal 2 c := by revert c; decide +kernel
theorem dev7_eq (c : Dev nD) : (⟨k0_dev7 c, k0_dev7_lt c⟩ : Dev nD) = pal 2 c := by revert c; decide +kernel
theorem dev8_eq (c : Dev nD) : (⟨k0_dev8 c, k0_dev8_lt c⟩ : Dev nD) = pal 1 c := by revert c; decide +kernel
theorem dev9_eq (c : Dev nD) : (⟨k0_dev9 c, k0_dev9_lt c⟩ : Dev nD) = pal 0 c := by revert c; decide +kernel

theorem off2_eq (c : Dev nD) : k0_off2 c = ![give 0 c, 0] := by revert c; decide +kernel
theorem off3_eq (c : Dev nD) : k0_off3 c = ![keep 0 c, 0] := by revert c; decide +kernel
theorem off4_eq (c : Dev nD) : k0_off4 c = ![give 1 c, 0] := by revert c; decide +kernel
theorem off5_eq (c : Dev nD) : k0_off5 c = ![keep 1 c, 0] := by revert c; decide +kernel
theorem off6_eq (c : Dev nD) : k0_off6 c = ![give 2 c, 0] := by revert c; decide +kernel
theorem off7_eq (c : Dev nD) : k0_off7 c = ![keep 2 c, 0] := by revert c; decide +kernel
theorem off8_eq (c : Dev nD) : k0_off8 c = ![keep 2 c, 0] := by revert c; decide +kernel
theorem off9_eq (c : Dev nD) : k0_off9 c = ![keep 1 c, 0] := by revert c; decide +kernel
theorem off10_eq (c : Dev nD) : k0_off10 c = ![keep 0 c, 0] := by revert c; decide +kernel

/-! ## Sets of rows -/

/-- Rows `a` to `a + n` of a matrix of `R` rows and 1024 columns. -/
def rowsOf (R a n : ℕ) : Finset (⟨2, ![R, 1024]⟩ : Shape).Idx :=
  Finset.univ.filter fun i => a ≤ (i 0).val ∧ (i 0).val < a + n

theorem mem_rowsOf {R a n : ℕ} {i : (⟨2, ![R, 1024]⟩ : Shape).Idx} : i ∈ rowsOf R a n ↔ a ≤ (i 0).val ∧ (i 0).val < a + n := by
  unfold rowsOf; rw [Finset.mem_filter]; exact and_iff_right (Finset.mem_univ _)

theorem rowsOf_all (R : ℕ) : rowsOf R 0 R = Finset.univ := by
  ext i; rw [mem_rowsOf]; refine ⟨fun _ => Finset.mem_univ _, fun _ => ⟨Nat.zero_le _, ?_⟩⟩
  rw [Nat.zero_add]; exact (i 0).isLt

/-- The rows under a rectangle of whole rows. -/
theorem set_rows {R a n : ℕ} {off : Fin 2 → ℕ} (h : off = ![a, 0]) (inb : ∀ d, off d + (![n, 1024] : Fin 2 → ℕ) d ≤ (⟨2, ![R, 1024]⟩ : Shape).size d) :
    (Rect.unit (s := ⟨2, ![R, 1024]⟩) off ![n, 1024] inb).set = rowsOf R a n := by
  subst h
  ext i; rw [Rect.mem_set_unit, mem_rowsOf]
  refine ⟨fun h => by simpa using h 0, fun h d => ?_⟩
  match d with
  | ⟨0, _⟩ => simpa using h
  | ⟨1, _⟩ => exact ⟨Nat.zero_le _, by have := (i 1).isLt; simpa using this⟩

theorem rowsOf_disjoint {R a n b k : ℕ} (h : a + n ≤ b ∨ b + k ≤ a) : Disjoint (rowsOf R a n) (rowsOf R b k) := by
  rw [Finset.disjoint_left]; intro i hi hj
  rw [mem_rowsOf] at hi hj; omega

theorem rowsOf_union {R a n b k d : ℕ} (h : (b = a + n ∧ d = a) ∨ (a = b + k ∧ d = b)) :
    rowsOf R a n ∪ rowsOf R b k = rowsOf R d (n + k) := by
  ext i; rw [Finset.mem_union, mem_rowsOf, mem_rowsOf, mem_rowsOf]; omega

/-- The two halves at each stage. -/
theorem halves_disjoint (s : Fin 3) (c : Dev nD) (n : ℕ) (hn : n = (![512, 256, 128] : Fin 3 → ℕ) s) :
    Disjoint (rowsOf 1024 (give s c) n) (rowsOf 1024 (keep s c) n) := by
  subst hn; apply rowsOf_disjoint; revert s c; decide
theorem halves0 (c : Dev nD) : rowsOf 1024 (give 0 c) 512 ∪ rowsOf 1024 (keep 0 c) 512 = Finset.univ := by
  rw [rowsOf_union (d := 0) (by revert c; decide), rowsOf_all]
theorem halves1 (c : Dev nD) : rowsOf 1024 (give 1 c) 256 ∪ rowsOf 1024 (keep 1 c) 256 = rowsOf 1024 (keep 0 c) 512 :=
  rowsOf_union (by revert c; decide)
theorem halves2 (c : Dev nD) : rowsOf 1024 (give 2 c) 128 ∪ rowsOf 1024 (keep 2 c) 128 = rowsOf 1024 (keep 1 c) 256 :=
  rowsOf_union (by revert c; decide)

/-- The three landing slots of the receive buffer. -/
theorem slots01 : rowsOf 896 0 512 ∪ rowsOf 896 512 256 = rowsOf 896 0 768 := rowsOf_union (by decide)
theorem slots012 : rowsOf 896 0 768 ∪ rowsOf 896 768 128 = Finset.univ := by
  rw [rowsOf_union (d := 0) (by decide), rowsOf_all]

/-! ## Views of whole rows -/

variable {Val : EltTy → Type}

/-- An index of a row block moved to its place in the whole. -/
def rowAt {R n : ℕ} (a : ℕ) (h : a + n ≤ R) (j : (⟨2, ![n, 1024]⟩ : Shape).Idx) : (⟨2, ![R, 1024]⟩ : Shape).Idx :=
  fun | 0 => ⟨a + (j 0).val, by have : (j 0).val < n := (j 0).isLt; show a + (j 0).val < R; omega⟩ | 1 => ⟨(j 1).val, (j 1).isLt⟩

theorem emb_rows {R a n : ℕ} {off : Fin 2 → ℕ} (h : off = ![a, 0]) (inb : ∀ d, off d + (![n, 1024] : Fin 2 → ℕ) d ≤ (⟨2, ![R, 1024]⟩ : Shape).size d)
    (hb : a + n ≤ R) (j : (⟨2, ![n, 1024]⟩ : Shape).Idx) :
    (Rect.unit (s := ⟨2, ![R, 1024]⟩) off ![n, 1024] inb).emb j = rowAt a hb j := by
  subst h
  funext d
  match d with
  | ⟨0, _⟩ => apply Fin.ext; simp [rowAt, Rect.emb, Rect.unit]
  | ⟨1, _⟩ => apply Fin.ext; simp [rowAt, Rect.emb, Rect.unit]

theorem rowAt_mem {R n : ℕ} (a : ℕ) (h : a + n ≤ R) (j : (⟨2, ![n, 1024]⟩ : Shape).Idx) : rowAt a h j ∈ rowsOf R a n := by
  rw [mem_rowsOf]; have : (j 0).val < n := (j 0).isLt; show a ≤ a + (j 0).val ∧ a + (j 0).val < a + n; omega

theorem exists_rowAt {R a n : ℕ} (h : a + n ≤ R) {i : (⟨2, ![R, 1024]⟩ : Shape).Idx} (hi : i ∈ rowsOf R a n) : ∃ j, rowAt a h j = i := by
  rw [mem_rowsOf] at hi
  refine ⟨fun | 0 => ⟨(i 0).val - a, by show _ < n; omega⟩ | 1 => ⟨(i 1).val, (i 1).isLt⟩, ?_⟩
  funext d
  match d with
  | ⟨0, _⟩ => apply Fin.ext; show a + ((i 0).val - a) = (i 0).val; omega
  | ⟨1, _⟩ => rfl

end Cert.Halving

end
-- ==== Proof.Contents.lean ====
/-
What the buffers of the kernel hold: the partial sum of a device, the running sums at each stage of
the halving, the finished rows, and how a transfer of whole rows moves them.
-/
module

public import proofs.«01_k».proof.Proof.Mesh
public import Idealize.ShloMosaic.Lib.Pipeline.Value

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## One block of 256 rows of a device's partial sum -/

/-- The additive mask of a query block at row `qs` against the key window at row `ks`. -/
def maskBlk (qs ks : ℕ) : FVec F S256x512 .f32 :=
  select (cmpi .sle (absi (subi (addi (iota .tc S256x512 32 [0] iota_S256x512_d0_w32) (broadcast S256x512 (BitVec.ofNat 32 qs)))
      (addi (iota .tc S256x512 32 [1] iota_S256x512_d1_w32) (broadcast S256x512 (BitVec.ofNat 32 ks))))) (broadcast S256x512 128#32))
    (broadcast S256x512 (Scalar.ofBits .f32 0x00000000#32 : F .f32)) (broadcast S256x512 (Named.named κ "mask" 0xCE6E6B28#32 : F .f32))

/-- The exponentials of the masked scores of head `h`. -/
def expBlk (qs ks h : ℕ) (hq : S1024x8x128.Slices ![qs, h, 0] S256x1x128) (hk : S1024x8x128.Slices ![ks, h, 0] S512x1x128)
    (q k : FVec F S1024x8x128 .bf16) : FVec F S256x512 .f32 :=
  exp (addf (matmul dot_S256x128_S512x128_S256x512_1_1_0_0_n_n none
      (shapeCast S256x128 (extractStridedSlice S256x1x128 ![qs, h, 0] q hq) shapeCasts_S256x1x128_S256x128)
      (shapeCast S512x128 (extractStridedSlice S512x1x128 ![ks, h, 0] k hk) shapeCasts_S512x1x128_S512x128)
      (constant S256x512 .f32 0x00000000#32)) (maskBlk qs ks))

/-- What head `h` reads from the values: the weighted sum of the rows, divided by the sum of the weights. -/
def ctxBlk (qs ks h : ℕ) (hq : S1024x8x128.Slices ![qs, h, 0] S256x1x128) (hk : S1024x8x128.Slices ![ks, h, 0] S512x1x128)
    (q k v : FVec F S1024x8x128 .bf16) : FVec F S256x128 .bf16 :=
  truncf .bf16 (mulf (matmul dot_S256x512_S512x128_S256x128_1_0_0_1_n_n none
      (truncf .bf16 (expBlk qs ks h hq hk q k) bitsLt_bf16_f32)
      (shapeCast S512x128 (extractStridedSlice S512x1x128 ![ks, h, 0] v hk) shapeCasts_S512x1x128_S512x128)
      (constant S256x128 .f32 0x00000000#32))
    (broadcastTo S256x128 (divf (broadcast S256x1 (Scalar.ofBits .f32 0x3F800000#32 : F .f32))
      (shapeCast S256x1 (multiReduction .add [1] S256 (expBlk qs ks h hq hk q k) 0x00000000#32 reduces_S256x512_S256 (.inl rfl) rfl) shapeCasts_S256_S256x1))
      broadcasts_S256x1_S256x128)) bitsLt_bf16_f32

/-- Head `h` through its rows `w` to `w + 128` of the output projection. -/
def headBlk (qs ks h w : ℕ) (hq : S1024x8x128.Slices ![qs, h, 0] S256x1x128) (hk : S1024x8x128.Slices ![ks, h, 0] S512x1x128)
    (hw : S1024x1024.Slices ![w, 0] S128x1024) (q k v : FVec F S1024x8x128 .bf16) (wo : FVec F S1024x1024 .bf16) : FVec F S256x1024 .f32 :=
  matmul dot_S256x128_S128x1024_S256x1024_1_0_0_1_n_n none (ctxBlk qs ks h hq hk q k v)
    (extractStridedSlice S128x1024 ![w, 0] wo hw) (constant S256x1024 .f32 0x00000000#32)

theorem sliceQ (qs h : ℕ) (hqs : qs ≤ 768) (hh : h < 8) : S1024x8x128.Slices ![qs, h, 0] S256x1x128 := by
  refine ⟨rfl, fun a => ?_⟩
  match a with
  | ⟨0, _⟩ => show qs + 256 ≤ 1024; omega
  | ⟨1, _⟩ => show h + 1 ≤ 8; omega
  | ⟨2, _⟩ => show 0 + 128 ≤ 128; omega
theorem sliceK (ks h : ℕ) (hks : ks ≤ 512) (hh : h < 8) : S1024x8x128.Slices ![ks, h, 0] S512x1x128 := by
  refine ⟨rfl, fun a => ?_⟩
  match a with
  | ⟨0, _⟩ => show ks + 512 ≤ 1024; omega
  | ⟨1, _⟩ => show h + 1 ≤ 8; omega
  | ⟨2, _⟩ => show 0 + 128 ≤ 128; omega
theorem sliceW (w : ℕ) (hw : w ≤ 896) : S1024x1024.Slices ![w, 0] S128x1024 := by
  refine ⟨rfl, fun a => ?_⟩
  match a with
  | ⟨0, _⟩ => show w + 128 ≤ 1024; omega
  | ⟨1, _⟩ => show 0 + 1024 ≤ 1024; omega

section Block
variable (qs ks : ℕ) (hqs : qs ≤ 768) (hks : ks ≤ 512) (q k v : FVec F S1024x8x128 .bf16) (wo : FVec F S1024x1024 .bf16)

/-- The contribution of head `h`. -/
abbrev headAt (h : ℕ) (hh : h < 8) : FVec F S256x1024 .f32 :=
  headBlk qs ks h (128 * h) (sliceQ qs h hqs hh) (sliceK ks h hks hh) (sliceW (128 * h) (by omega)) q k v wo

/-- The block: the eight heads added up. -/
def blk : FVec F S256x1024 .bf16 :=
  truncf .bf16 (addf (addf (addf (addf (addf (addf (addf (addf (broadcast S256x1024 (Scalar.ofBits .f32 0x00000000#32 : F .f32))
    (headAt qs ks hqs hks q k v wo 0 (by decide))) (headAt qs ks hqs hks q k v wo 1 (by decide))) (headAt qs ks hqs hks q k v wo 2 (by decide)))
    (headAt qs ks hqs hks q k v wo 3 (by decide))) (headAt qs ks hqs hks q k v wo 4 (by decide))) (headAt qs ks hqs hks q k v wo 5 (by decide)))
    (headAt qs ks hqs hks q k v wo 6 (by decide))) (headAt qs ks hqs hks q k v wo 7 (by decide))) bitsLt_bf16_f32
end Block

/-! ## The kernel's own text computes these blocks -/

section Pays
variable (q k v : FVec F S1024x8x128 .bf16) (wo : FVec F S1024x1024 .bf16)

theorem first_2 :
    k0_pay11 q k v wo k0_pay2 (k0_pay8 q k v wo k0_pay2 (k0_pay6 q k v wo k0_pay2 (k0_pay3 q k v wo) (k0_pay4 q k) (k0_pay5 q k)) (k0_pay7 q k v k0_pay2))
      (k0_pay9 q) (k0_pay10 k) = blk 512 384 (by decide) (by decide) q k v wo :=
  (shapeCast_self _ shapeCasts_S256x1024_S256x1024).trans rfl
theorem second_2 :
    k0_pay87 q k v wo (k0_pay13 k0_pay12 (iota .tc S256x512 32 [1] iota_S256x512_d1_w32)) (k0_pay20 q k v wo (k0_pay13 k0_pay12 (iota .tc S256x512 32 [1] iota_S256x512_d1_w32)) (k0_pay18 q k v wo (k0_pay13 k0_pay12 (iota .tc S256x512 32 [1] iota_S256x512_d1_w32)) (k0_pay14 q k v wo k0_pay12 (iota .tc S256x512 32 [1] iota_S256x512_d1_w32)) (k0_pay16 q k k0_pay12 (iota .tc S256x512 32 [1] iota_S256x512_d1_w32)) (k0_pay17 q k v k0_pay12 (iota .tc S256x512 32 [1] iota_S256x512_d1_w32)))
      (k0_pay19 q)) (k0_pay21 q k (k0_pay13 k0_pay12 (iota .tc S256x512 32 [1] iota_S256x512_d1_w32))) = blk 768 512 (by decide) (by decide) q k v wo :=
  (shapeCast_self _ shapeCasts_S256x1024_S256x1024).trans rfl
theorem first_22 :
    k0_pay31 q k v wo k0_pay22 (k0_pay28 q k v wo k0_pay22 (k0_pay26 q k v wo k0_pay22 (k0_pay23 q k v wo) (k0_pay24 q k) (k0_pay25 q k)) (k0_pay27 q k v k0_pay22))
      (k0_pay29 q) (k0_pay30 k) = blk 0 0 (by decide) (by decide) q k v wo :=
  (shapeCast_self _ shapeCasts_S256x1024_S256x1024).trans rfl
theorem second_22 :
    k0_pay88 q k v wo (k0_pay33 k0_pay32 (iota .tc S256x512 32 [1] iota_S256x512_d1_w32)) (k0_pay40 q k v wo (k0_pay33 k0_pay32 (iota .tc S256x512 32 [1] iota_S256x512_d1_w32)) (k0_pay38 q k v wo (k0_pay33 k0_pay32 (iota .tc S256x512 32 [1] iota_S256x512_d1_w32)) (k0_pay34 q k v wo k0_pay32 (iota .tc S256x512 32 [1] iota_S256x512_d1_w32)) (k0_pay36 q k k0_pay32 (iota .tc S256x512 32 [1] iota_S256x512_d1_w32)) (k0_pay37 q k v k0_pay32 (iota .tc S256x512 32 [1] iota_S256x512_d1_w32)))
      (k0_pay39 q)) (k0_pay41 q k (k0_pay33 k0_pay32 (iota .tc S256x512 32 [1] iota_S256x512_d1_w32))) = blk 256 128 (by decide) (by decide) q k v wo :=
  (shapeCast_self _ shapeCasts_S256x1024_S256x1024).trans rfl
theorem first_42 :
    k0_pay51 q k v wo k0_pay42 (k0_pay48 q k v wo k0_pay42 (k0_pay46 q k v wo k0_pay42 (k0_pay43 q k v wo) (k0_pay44 q k) (k0_pay45 q k)) (k0_pay47 q k v k0_pay42))
      (k0_pay49 q) (k0_pay50 k) = blk 0 0 (by decide) (by decide) q k v wo :=
  (shapeCast_self _ shapeCasts_S256x1024_S256x1024).trans rfl
theorem second_42 :
    k0_pay89 q k v wo (k0_pay53 k0_pay52 (iota .tc S256x512 32 [1] iota_S256x512_d1_w32)) (k0_pay60 q k v wo (k0_pay53 k0_pay52 (iota .tc S256x512 32 [1] iota_S256x512_d1_w32)) (k0_pay58 q k v wo (k0_pay53 k0_pay52 (iota .tc S256x512 32 [1] iota_S256x512_d1_w32)) (k0_pay54 q k v wo k0_pay52 (iota .tc S256x512 32 [1] iota_S256x512_d1_w32)) (k0_pay56 q k k0_pay52 (iota .tc S256x512 32 [1] iota_S256x512_d1_w32)) (k0_pay57 q k v k0_pay52 (iota .tc S256x512 32 [1] iota_S256x512_d1_w32)))
      (k0_pay59 q)) (k0_pay61 q k (k0_pay53 k0_pay52 (iota .tc S256x512 32 [1] iota_S256x512_d1_w32))) = blk 256 128 (by decide) (by decide) q k v wo :=
  (shapeCast_self _ shapeCasts_S256x1024_S256x1024).trans rfl
theorem first_62 :
    k0_pay71 q k v wo k0_pay62 (k0_pay68 q k v wo k0_pay62 (k0_pay66 q k v wo k0_pay62 (k0_pay63 q k v wo) (k0_pay64 q k) (k0_pay65 q k)) (k0_pay67 q k v k0_pay62))
      (k0_pay69 q) (k0_pay70 k) = blk 512 384 (by decide) (by decide) q k v wo :=
  (shapeCast_self _ shapeCasts_S256x1024_S256x1024).trans rfl
theorem second_62 :
    k0_pay90 q k v wo (k0_pay73 k0_pay72 (iota .tc S256x512 32 [1] iota_S256x512_d1_w32)) (k0_pay80 q k v wo (k0_pay73 k0_pay72 (iota .tc S256x512 32 [1] iota_S256x512_d1_w32)) (k0_pay78 q k v wo (k0_pay73 k0_pay72 (iota .tc S256x512 32 [1] iota_S256x512_d1_w32)) (k0_pay74 q k v wo k0_pay72 (iota .tc S256x512 32 [1] iota_S256x512_d1_w32)) (k0_pay76 q k k0_pay72 (iota .tc S256x512 32 [1] iota_S256x512_d1_w32)) (k0_pay77 q k v k0_pay72 (iota .tc S256x512 32 [1] iota_S256x512_d1_w32)))
      (k0_pay79 q)) (k0_pay81 q k (k0_pay73 k0_pay72 (iota .tc S256x512 32 [1] iota_S256x512_d1_w32))) = blk 768 512 (by decide) (by decide) q k v wo :=
  (shapeCast_self _ shapeCasts_S256x1024_S256x1024).trans rfl

end Pays

/-! ## A device's partial sum -/

variable (m : (ℓ : Loc nD τ sig) → Buf (Elt F) ℓ)

abbrev cbM : Memref sig .tc .vmem S1024x1024 .bf16 := Memref.whole cc0_scratch1
abbrev rvM : Memref sig .tc .vmem S896x1024 .bf16 := Memref.whole cc0_scratch2
abbrev kvM : Memref sig .tc .vmem S2x1024x8x128 .f32 := Memref.whole cc0_scratch0
abbrev kM : Memref sig .tc .hbm S1x1024x64x128 .f32 := Memref.whole main_arg2
abbrev vM : Memref sig .tc .hbm S1x1024x64x128 .f32 := Memref.whole main_arg3

/-- What the pipeline stages: the activations, and the device's columns of the query and rows of the
    output projection. -/
def xStg (c : Dev nD) : (cc0_stg0_0 : Ref sig .tc).ty.Contents (Elt F) :=
  (win0_0.blk (0 : Fin 1)).view.read (Elt F) (m ((c : Thread nD τ).loc main_arg0))
def wqStg (c : Dev nD) : (cc0_stg1_0 : Ref sig .tc).ty.Contents (Elt F) :=
  (win0_1.blk (0 : Fin 1)).view.read (Elt F) (m ((c : Thread nD τ).loc main_arg1))
def woStg (c : Dev nD) : (cc0_stg2_0 : Ref sig .tc).ty.Contents (Elt F) :=
  (win0_2.blk (0 : Fin 1)).view.read (Elt F) (m ((c : Thread nD τ).loc main_arg4))

/-- The device's eight heads of the keys and of the values. -/
abbrev headRect (c : Dev nD) : Rect S1x1024x64x128 := Rect.unit (s := S1x1024x64x128) (k0_off1 c) S1x1024x8x128.size (k0_off1_inb c)
def kLd (c : Dev nD) : Vec F S1x1024x8x128 .f32 := (kM.view.slice (headRect c)).read (Elt F) (m ((c : Thread nD τ).loc main_arg2))
def vLd (c : Dev nD) : Vec F S1x1024x8x128 .f32 := (vM.view.slice (headRect c)).read (Elt F) (m ((c : Thread nD τ).loc main_arg3))

def qAt (c : Dev nD) : FVec F S1024x8x128 .bf16 := k0_pay82 (xStg m c) (wqStg m c)
def kAt (c : Dev nD) : FVec F S1024x8x128 .bf16 := k0_pay84 (k0_pay83 (kLd m c))
def vAt (c : Dev nD) : FVec F S1024x8x128 .bf16 := k0_pay85 (vLd m c)
def woAt (c : Dev nD) : FVec F S1024x1024 .bf16 := k0_pay86 (woStg m c)

/-- The block of rows `256 b` to `256 b + 256`. -/
def blkAt (c : Dev nD) : ℕ → FVec F S256x1024 .bf16
  | 0 => blk 0 0 (by decide) (by decide) (qAt m c) (kAt m c) (vAt m c) (woAt m c)
  | 1 => blk 256 128 (by decide) (by decide) (qAt m c) (kAt m c) (vAt m c) (woAt m c)
  | 2 => blk 512 384 (by decide) (by decide) (qAt m c) (kAt m c) (vAt m c) (woAt m c)
  | _ => blk 768 512 (by decide) (by decide) (qAt m c) (kAt m c) (vAt m c) (woAt m c)

abbrev CB (F : FTy → Type) : Type := (⟨2, ![1024, 1024]⟩ : Shape).Idx → F .bf16

/-- A row index of a block of 256. -/
def inBlk (i : (⟨2, ![1024, 1024]⟩ : Shape).Idx) : S256x1024.Idx :=
  fun | 0 => ⟨(i 0).val % 256, Nat.mod_lt _ (by decide)⟩ | 1 => ⟨(i 1).val, (i 1).isLt⟩

/-- The device's partial sum. -/
def part (c : Dev nD) : CB F := fun i => blkAt m c ((i 0).val / 256) (inBlk i)

theorem part_row (c : Dev nD) (b : ℕ) (h : 256 * b + 256 ≤ 1024) (j : S256x1024.Idx) :
    part m c (rowAt (256 * b) h j) = blkAt m c b j := by
  have hj : (j 0).val < 256 := (j 0).isLt
  have hd : (256 * b + (j 0).val) / 256 = b := by omega
  have hm : inBlk (rowAt (256 * b) h j) = j := by
    funext d
    match d with
    | ⟨0, _⟩ => apply Fin.ext; show (256 * b + (j 0).val) % 256 = (j 0).val; omega
    | ⟨1, _⟩ => rfl
  show blkAt m c ((256 * b + (j 0).val) / 256) (inBlk (rowAt (256 * b) h j)) = _
  rw [hd, hm]

/-! ## The running sums -/

/-- Two elements added in single precision and rounded. -/
def add1 (x y : F .bf16) : F .bf16 :=
  FloatOps.truncf .bf16 bitsLt_bf16_f32 (FloatOps.addf (FloatOps.extf .f32 bitsLt_bf16_f32 x) (FloatOps.extf .f32 bitsLt_bf16_f32 y))

/-- What the device holds (on the rows it still keeps) after `s` exchanges. -/
def run : ℕ → Dev nD → CB F
  | 0, c => part m c
  | 1, c => fun i => add1 (run 0 c i) (run 0 (pal 0 c) i)
  | 2, c => fun i => add1 (run 1 c i) (run 1 (pal 1 c) i)
  | _ + 3, c => fun i => add1 (run 2 c i) (run 2 (pal 2 c) i)

/-- The finished rows, each computed by its owner. -/
def fin : CB F := fun i => run m 3 (owner (i 0).val) i

theorem fin_keep (c : Dev nD) (h : keep 2 c + 128 ≤ 1024) (j : S128x1024.Idx) :
    fin m (rowAt (keep 2 c) h j) = run m 3 c (rowAt (keep 2 c) h j) := by
  show run m 3 (owner (keep 2 c + (j 0).val)) _ = _
  rw [owner_keep c ⟨(j 0).val, (j 0).isLt⟩]

abbrev slot : Fin 3 → ℕ := ![0, 512, 768]
abbrev len : Fin 3 → ℕ := ![512, 256, 128]

/-- What the receive buffer holds in the slot of stage `s` after the landing: the partner's running
    sum on the rows the device keeps. -/
def landed (s : Fin 3) (c : Dev nD) : (⟨2, ![896, 1024]⟩ : Shape).Idx → F .bf16 := fun i =>
  run m s.val (pal s c) (fun | 0 => ⟨((i 0).val - slot s + keep s c) % 1024, Nat.mod_lt _ (by decide)⟩ | 1 => ⟨(i 1).val, (i 1).isLt⟩)

theorem landed_row (s : Fin 3) (c : Dev nD) {n : ℕ} (h : slot s + n ≤ 896) (h' : keep s c + n ≤ 1024) (j : (⟨2, ![n, 1024]⟩ : Shape).Idx) :
    landed m s c (rowAt (slot s) h j) = run m s.val (pal s c) (rowAt (keep s c) h' j) := by
  unfold landed; congr 1
  have hj : (j 0).val < n := (j 0).isLt
  funext d
  match d with
  | ⟨0, _⟩ => apply Fin.ext; show ((slot s + (j 0).val) - slot s + keep s c) % 1024 = keep s c + (j 0).val; omega
  | ⟨1, _⟩ => rfl

theorem add512 (x y : Vec F S512x1024 .bf16) : k0_pay91 x y = fun j => add1 (x j) (y j) := (shapeCast_self _ shapeCasts_S512x1024_S512x1024).trans rfl
theorem add256 (x y : Vec F S256x1024 .bf16) : k0_pay92 x y = fun j => add1 (x j) (y j) := (shapeCast_self _ shapeCasts_S256x1024_S256x1024).trans rfl
theorem add128 (x y : Vec F S128x1024 .bf16) : k0_pay93 x y = fun j => add1 (x j) (y j) := (shapeCast_self _ shapeCasts_S128x1024_S128x1024).trans rfl

/-! ## Whole rows read, written and moved -/

theorem cb_read {a n : ℕ} {off : Fin 2 → ℕ} (h : off = ![a, 0]) (inb) (hb : a + n ≤ 1024) (f : CB F) (j : (⟨2, ![n, 1024]⟩ : Shape).Idx) :
    (cbM.view.slice (Rect.unit (s := S1024x1024) off ![n, 1024] inb)).read (Elt F) f j = f (rowAt a hb j) :=
  congrArg f (emb_rows h inb hb j)
theorem rv_read {a n : ℕ} {off : Fin 2 → ℕ} (h : off = ![a, 0]) (inb) (hb : a + n ≤ 896) (f : (⟨2, ![896, 1024]⟩ : Shape).Idx → F .bf16) (j : (⟨2, ![n, 1024]⟩ : Shape).Idx) :
    (rvM.view.slice (Rect.unit (s := S896x1024) off ![n, 1024] inb)).read (Elt F) f j = f (rowAt a hb j) :=
  congrArg f (emb_rows h inb hb j)

theorem cb_write {a n : ℕ} {off : Fin 2 → ℕ} (h : off = ![a, 0]) (inb) (hb : a + n ≤ 1024) (f G : CB F) (w : (⟨2, ![n, 1024]⟩ : Shape).Idx → F .bf16)
    (hw : ∀ j, w j = G (rowAt a hb j)) : ∀ i ∈ rowsOf 1024 a n,
    (cbM.view.slice (Rect.unit (s := S1024x1024) off ![n, 1024] inb)).write (Elt F) f w Finset.univ i = G i := by
  intro i hi
  obtain ⟨j, rfl⟩ := exists_rowAt hb hi
  rw [← hw j, ← emb_rows h inb hb j]
  exact View.write_emb_of_mem (Val := Elt F) (v := cbM.view.slice (Rect.unit (s := S1024x1024) off ![n, 1024] inb)) f w (Finset.mem_univ j)
theorem rv_write {a n : ℕ} {off : Fin 2 → ℕ} (h : off = ![a, 0]) (inb) (hb : a + n ≤ 896) (f G : (⟨2, ![896, 1024]⟩ : Shape).Idx → F .bf16) (w : (⟨2, ![n, 1024]⟩ : Shape).Idx → F .bf16)
    (hw : ∀ j, w j = G (rowAt a hb j)) : ∀ i ∈ rowsOf 896 a n,
    (rvM.view.slice (Rect.unit (s := S896x1024) off ![n, 1024] inb)).write (Elt F) f w Finset.univ i = G i := by
  intro i hi
  obtain ⟨j, rfl⟩ := exists_rowAt hb hi
  rw [← hw j, ← emb_rows h inb hb j]
  exact View.write_emb_of_mem (Val := Elt F) (v := rvM.view.slice (Rect.unit (s := S896x1024) off ![n, 1024] inb)) f w (Finset.mem_univ j)

theorem cb_set {a n : ℕ} {off : Fin 2 → ℕ} (h : off = ![a, 0]) (inb) :
    (cbM.view.slice (Rect.unit (s := S1024x1024) off ![n, 1024] inb)).set = rowsOf 1024 a n :=
  (View.set_slice_whole cc0_scratch1 _).trans (set_rows h inb)
theorem rv_set {a n : ℕ} {off : Fin 2 → ℕ} (h : off = ![a, 0]) (inb) :
    (rvM.view.slice (Rect.unit (s := S896x1024) off ![n, 1024] inb)).set = rowsOf 896 a n :=
  (View.set_slice_whole cc0_scratch2 _).trans (set_rows h inb)

/-- Reading through a view what was written through a re-indexing of it. -/
theorem read_write_reshape {κ κ' : Kind} {sp sp' : Space} {s s' : Shape} {e : EltTy} {Val : EltTy → Type} (v : View sig κ sp s e) (u : View sig κ' sp' s e)
    (h : s'.numel = s.numel) (f : v.ty.Contents Val) (g : u.ty.Contents Val) :
    v.read Val ((v.reshape s' h).write Val f ((u.reshape s' h).read Val g) Finset.univ) = u.read Val g := by
  have := View.read_write_univ (v := v.reshape s' h) f ((u.reshape s' h).read Val g)
  funext x
  have hx := congrFun this ((Shape.reshapeEquiv h).symm x)
  have e1 : (v.reshape s' h).emb ((Shape.reshapeEquiv h).symm x) = v.emb x := by
    show v.emb (Shape.reshapeEquiv h ((Shape.reshapeEquiv h).symm x)) = _; rw [Equiv.apply_symm_apply]
  have e2 : (u.reshape s' h).emb ((Shape.reshapeEquiv h).symm x) = u.emb x := by
    show u.emb (Shape.reshapeEquiv h ((Shape.reshapeEquiv h).symm x)) = _; rw [Equiv.apply_symm_apply]
  rw [View.read_apply, View.read_apply, e1] at hx
  rw [View.read_apply, View.read_apply]
  rw [e2] at hx; exact hx

end Cert.Halving

end
-- ==== Proof.Protocol.lean ====
/-
How the devices talk: the cells (the barrier, the two copies, the six sends and the six receives of a
device), who pays each and what the payment hands over, the order in which a device pays, and the
levels that keep the waits acyclic.
-/
module

public import proofs.«01_k».proof.Proof.Contents
public import Idealize.ShloMosaic.Lib.Rounds

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem

/-- The cells of a device: 0 the barrier, 1 and 2 the copies of the keys and the values, 3 to 8 the
    sends and 9 to 14 the receives, in the order in which the kernel issues them. -/
def csem (k : Fin 15) : SemLoc sig :=
  if k.val = 0 then .reg barS else .dma (⟨k.val + 3, by have := k.isLt; show k.val + 3 < 18; omega⟩ : Fin 18)
abbrev kcell (ck : Dev nD × Fin 15) : GSem nD τ sig := ((ck.1 : Thread nD τ), csem ck.2)

/-- The cell a counter belongs to, if it is one of these fifteen. -/
def idxOf : SemLoc sig → Option (Fin 15)
  | .reg _ => some 0
  | .dma q => if h : 4 ≤ q.val then some ⟨q.val - 3, by have : q.val < 18 := q.isLt; omega⟩ else none

theorem idxOf_csem : ∀ k, idxOf (csem k) = some k := by decide

/-- The cells of the stage `s`: send and receive of the halving, send and receive of the way back. -/
abbrev hSnd : Fin 3 → Fin 15 := ![3, 4, 5]
abbrev hRcv : Fin 3 → Fin 15 := ![9, 10, 11]
abbrev gSnd : Fin 3 → Fin 15 := ![8, 7, 6]
abbrev gRcv : Fin 3 → Fin 15 := ![14, 13, 12]

/-- The credit of a block of `n` rows, and of a copy. -/
def cr (n : ℕ) : ℕ := RefSig.tileCredit ⟨2, ![n, 1024]⟩ .bf16
def crKV : ℕ := RefSig.tileCredit S1024x8x128 .f32

/-- The units that complete a cell's one round. -/
def amt : Fin 15 → ℕ :=
  ![1, crKV, crKV, cr 512, cr 256, cr 128, cr 128, cr 256, cr 512, cr 512, cr 256, cr 128, cr 128, cr 256, cr 512]

theorem amt_pos : ∀ k, 0 < amt k := by decide +kernel
theorem amt_hSnd (s : Fin 3) : amt (hSnd s) = cr (len s) := by match s with | 0 => rfl | 1 => rfl | 2 => rfl
theorem amt_hRcv (s : Fin 3) : amt (hRcv s) = cr (len s) := by match s with | 0 => rfl | 1 => rfl | 2 => rfl
theorem amt_gSnd (s : Fin 3) : amt (gSnd s) = cr (len s) := by match s with | 0 => rfl | 1 => rfl | 2 => rfl
theorem amt_gRcv (s : Fin 3) : amt (gRcv s) = cr (len s) := by match s with | 0 => rfl | 1 => rfl | 2 => rfl

/-! ## The payloads -/

/-- Rows of the partial sum, and of the receive buffer, held by whoever states this. -/
def cbP (c : Dev nD) (a n : ℕ) (f : CB F) : sProp 𝕄 :=
  cbM.view.loc (c : Thread nD τ) ↦[rowsOf 1024 a n]{fullShare} f
def rvP (c : Dev nD) (a n : ℕ) (f : (⟨2, ![896, 1024]⟩ : Shape).Idx → F .bf16) : sProp 𝕄 :=
  rvM.view.loc (c : Thread nD τ) ↦[rowsOf 896 a n]{fullShare} f

omit [FloatOps F] [Named F] in
instance cbP_storable (c : Dev nD) (a n) (f) : BI.Storable (upEmb : UEmb _ 𝕄) (cbP (F := F) c a n f) := by unfold cbP; infer_instance
omit [FloatOps F] [Named F] in
instance rvP_storable (c : Dev nD) (a n) (f) : BI.Storable (upEmb : UEmb _ 𝕄) (rvP (F := F) c a n f) := by unfold rvP; infer_instance

/-- The device's heads in the arrays, and where they land. -/
abbrev kSrc (c : Dev nD) : Memref sig .tc .hbm S1024x8x128 .f32 :=
  (kM.slice (headRect c) (fun _ => rfl)).squeeze S1024x8x128 squeezes_S1x1024x8x128_S1024x8x128
abbrev vSrc (c : Dev nD) : Memref sig .tc .hbm S1024x8x128 .f32 :=
  (vM.slice (headRect c) (fun _ => rfl)).squeeze S1024x8x128 squeezes_S1x1024x8x128_S1024x8x128
abbrev kRect : Rect S2x1024x8x128 := Rect.unit (s := S2x1024x8x128) ![0, 0, 0, 0] S1x1024x8x128.size inb_S2x1024x8x128_S1x1024x8x128_0_0_0_0
abbrev vRect : Rect S2x1024x8x128 := Rect.unit (s := S2x1024x8x128) ![1, 0, 0, 0] S1x1024x8x128.size inb_S2x1024x8x128_S1x1024x8x128_1_0_0_0
abbrev kDst : Memref sig .tc .vmem S1024x8x128 .f32 :=
  (kvM.slice kRect (fun _ => rfl)).squeeze S1024x8x128 squeezes_S1x1024x8x128_S1024x8x128
abbrev vDst : Memref sig .tc .vmem S1024x8x128 .f32 :=
  (kvM.slice vRect (fun _ => rfl)).squeeze S1024x8x128 squeezes_S1x1024x8x128_S1024x8x128

/-- The barrier payment of the partner `pal d c`: the slot of its receive buffer into which `c` sends. -/
def barPay (c : Dev nD) (d : Fin 3) : sProp 𝕄 := iprop(∃ f, rvP (pal d c) (slot d) (len d) f)
/-- A finished copy: the landed heads, and the read share of the array. -/
def kPay (c : Dev nD) : sProp 𝕄 :=
  iprop(∃ fd : Buf (Elt F) (kDst.view.loc (c : Thread nD τ)),
    (kDst.view.loc (c : Thread nD τ) ↦[kDst.view.set]{fullShare}
      (kDst.view.write (Elt F) fd ((kSrc c).view.read (Elt F) (m ((c : Thread nD τ).loc main_arg2))) Finset.univ))
    ∗ ((kSrc c).view.loc (c : Thread nD τ) ↦[(kSrc c).view.set]{fullShare} m ((c : Thread nD τ).loc main_arg2)))
def vPay (c : Dev nD) : sProp 𝕄 :=
  iprop(∃ fd : Buf (Elt F) (vDst.view.loc (c : Thread nD τ)),
    (vDst.view.loc (c : Thread nD τ) ↦[vDst.view.set]{fullShare}
      (vDst.view.write (Elt F) fd ((vSrc c).view.read (Elt F) (m ((c : Thread nD τ).loc main_arg3))) Finset.univ))
    ∗ ((vSrc c).view.loc (c : Thread nD τ) ↦[(vSrc c).view.set]{fullShare} m ((c : Thread nD τ).loc main_arg3)))
/-- A landing of the halving: the partner's running sum on the kept rows, and the partner's own copy
    of those rows, which it does not touch again until they come back. -/
def rsPay (s : Fin 3) (c : Dev nD) : sProp 𝕄 :=
  iprop(rvP c (slot s) (len s) (landed m s c) ∗ ∃ g, cbP (pal s c) (keep s c) (len s) g)

/-- What the payment `d` of a device's cell hands to it. -/
def pay (c : Dev nD) (k : Fin 15) (d : Fin 3) : sProp 𝕄 :=
  match k with
  | 0 => barPay c d
  | 1 => kPay m c
  | 2 => vPay m c
  | 6 => cbP c (keep 2 c) (len 2) (fin m)
  | 7 => cbP c (keep 1 c) (len 1) (fin m)
  | 8 => cbP c (keep 0 c) (len 0) (fin m)
  | 9 => rsPay m 0 c
  | 10 => rsPay m 1 c
  | 11 => rsPay m 2 c
  | 12 => cbP c (give 2 c) (len 2) (fin m)
  | 13 => cbP c (give 1 c) (len 1) (fin m)
  | 14 => cbP c (give 0 c) (len 0) (fin m)
  | _ => iprop(emp)

theorem pay_hSnd (s : Fin 3) (c : Dev nD) (d) : pay m c (hSnd s) d = iprop(emp) := by match s with | 0 => rfl | 1 => rfl | 2 => rfl
theorem pay_hRcv (s : Fin 3) (c : Dev nD) (d) : pay m c (hRcv s) d = rsPay m s c := by match s with | 0 => rfl | 1 => rfl | 2 => rfl
theorem pay_gSnd (s : Fin 3) (c : Dev nD) (d) : pay m c (gSnd s) d = cbP c (keep s c) (len s) (fin m) := by match s with | 0 => rfl | 1 => rfl | 2 => rfl
theorem pay_gRcv (s : Fin 3) (c : Dev nD) (d) : pay m c (gRcv s) d = cbP c (give s c) (len s) (fin m) := by match s with | 0 => rfl | 1 => rfl | 2 => rfl

instance pay_storable (c : Dev nD) (k : Fin 15) (d : Fin 3) : BI.Storable (upEmb : UEmb _ 𝕄) (pay m c k d) := by
  unfold pay barPay kPay vPay rsPay
  split <;> infer_instance

/-! ## The schedule -/

/-- The payments of a cell's one round: three for the barrier, one for every other. -/
def dut (k : Fin 15) : Finset (Fin 3) := if k = 0 then Finset.univ else {0}

def sched : Rounds.Schedule (GSem nD τ sig) (Fin 3) 𝕄 where
  duties g r := if r = 0 ∧ g.1.2 = .tc then (idxOf g.2).elim ∅ dut else ∅
  unitless _ := False
  amount g _ _ := (idxOf g.2).elim 1 amt
  payload g _ d := (idxOf g.2).elim iprop(emp) fun k => pay m g.1.1 k d
  amount_pos g _ _ _ := by
    cases h : idxOf g.2 with
    | none => exact Nat.one_pos
    | some k => exact amt_pos k

instance sched_storable (g : GSem nD τ sig) (r : ℕ) (d : Fin 3) :
    BI.Storable (upEmb : UEmb _ 𝕄) ((sched m).payload g r d) := by
  show BI.Storable upEmb ((idxOf g.2).elim iprop(emp) fun k => pay m g.1.1 k d)
  cases idxOf g.2 with
  | none => show BI.Storable upEmb iprop(emp); infer_instance
  | some k => exact pay_storable m g.1.1 k d

theorem duties_at (c : Dev nD) (k : Fin 15) : (sched m).duties (kcell (c, k)) 0 = dut k := by
  dsimp only [sched]; rw [if_pos ⟨rfl, rfl⟩, idxOf_csem]; rfl
theorem duties_later (g : GSem nD τ sig) : ∀ r, 1 ≤ r → (sched m).duties g r = ∅ :=
  fun r hr => by dsimp only [sched]; rw [if_neg fun h => by omega]
theorem amount_at (c : Dev nD) (k : Fin 15) (d) : (sched m).amount (kcell (c, k)) 0 d = amt k := by
  dsimp only [sched]; rw [idxOf_csem]; rfl
theorem payload_at (c : Dev nD) (k : Fin 15) (d) : (sched m).payload (kcell (c, k)) 0 d = pay m c k d := by
  dsimp only [sched]; rw [idxOf_csem]; rfl

theorem zero_mem_dut (k : Fin 15) : (0 : Fin 3) ∈ dut k := by
  unfold dut; split
  · exact Finset.mem_univ _
  · exact Finset.mem_singleton_self _

theorem expect_bar (c : Dev nD) : (sched m).expect (kcell (c, 0)) 0 = 3 := by
  unfold Schedule.expect Schedule.amountOf
  rw [duties_at, Finset.sum_congr rfl fun d _ => amount_at m c 0 d]; rfl
theorem expect_dma (c : Dev nD) (k : Fin 15) (hk : k ≠ 0) : (sched m).expect (kcell (c, k)) 0 = amt k := by
  unfold Schedule.expect Schedule.amountOf
  rw [duties_at, dut, if_neg hk, Finset.sum_singleton, amount_at]

theorem rest_bar (c : Dev nD) :
    bigSep ((sched m).duties (kcell (c, 0)) 0 \ ∅) (fun d => (sched m).payload (kcell (c, 0)) 0 d)
      = iprop(barPay c 0 ∗ barPay c 1 ∗ barPay c 2) := by
  rw [Finset.sdiff_empty, duties_at, show dut 0 = Finset.univ from rfl,
    bigSep_univ_eq_bigSepL [0, 1, 2] (by decide) (by decide), bigSepL_cons_cons, bigSepL_cons_cons, bigSepL_singleton,
    payload_at, payload_at, payload_at]
  rfl
theorem rest_dma (c : Dev nD) (k : Fin 15) (hk : k ≠ 0) :
    bigSep ((sched m).duties (kcell (c, k)) 0 \ ∅) (fun d => (sched m).payload (kcell (c, k)) 0 d) = pay m c k 0 := by
  rw [Finset.sdiff_empty, duties_at, dut, if_neg hk, bigSep_singleton, payload_at]

/-! ## What a device owes, and the levels -/

/-- The payments a device still has to make, the next one first. -/
def oweL : List (Dev nD × Fin 15) → CellTallies nD τ sig Unit
  | [] => 0
  | x :: l => oweL l + tallyAt (kcell x) () (amt x.2)

/-- The nine payments a device owes its partners. -/
def duesL (c : Dev nD) : List (Dev nD × Fin 15) :=
  [(pal 0 c, 0), (pal 1 c, 0), (pal 2 c, 0), (pal 0 c, 9), (pal 1 c, 10), (pal 2 c, 11), (pal 2 c, 12), (pal 1 c, 13), (pal 0 c, 14)]

def O₀ (c : Dev nD) : CellTallies nD τ sig Unit := oweL (duesL c)

/-- Levels: copies, sends and staging at the bottom, then the barrier, then the receives in order. -/
def lvl : Fin 15 → ℕ := ![1, 0, 0, 0, 0, 0, 0, 0, 0, 2, 3, 4, 5, 6, 7]
def lv (g : GSem nD τ sig) (_ : Unit) : ℕ := (idxOf g.2).elim 0 lvl
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Fin 15) : lv (kcell (c, k)) () = lvl k := by unfold lv; rw [idxOf_csem]; rfl

theorem oweL_pos {l : List (Dev nD × Fin 15)} {g : GSem nD τ sig} {u : Unit} (h : 0 < oweL l g u) : ∃ x ∈ l, g = kcell x := by
  induction l with
  | nil => exact absurd h (Nat.lt_irrefl 0)
  | cons x l ih =>
    unfold oweL at h
    rw [Pi.add_apply, Finsupp.add_apply, tallyAt_apply] at h
    by_cases hx : g = kcell x ∧ u = ()
    · exact ⟨x, List.mem_cons_self, hx.1⟩
    · rw [if_neg hx, Nat.add_zero] at h
      obtain ⟨y, hy, e⟩ := ih h
      exact ⟨y, List.mem_cons_of_mem _ hy, e⟩

omit [FloatOps F] [Named F] in
/-- A device may wait at level `b` when everything it still owes lies above. -/
theorem mayWait_of (c : Dev nD) (sm : SemLoc sig) (b : ℕ) (hb : lv ((c : Thread nD τ), sm) () ≤ b) (l : List (Dev nD × Fin 15))
    (hl : ∀ x ∈ l, b < lvl x.2) : (levAts L lv : sProp 𝕄) ⊢ MayWait (c : Thread nD τ) sm () (oweL l) :=
  MayOwe.of_cut (L := L) (lev := lv) b (fun p hp => by rw [Finset.mem_singleton.mp hp, L_tc]; exact Finset.mem_singleton_self _)
    (fun g u hg => by obtain ⟨x, _, rfl⟩ := oweL_pos hg; exact Finset.mem_singleton_self _)
    (fun p hp => by rw [Finset.mem_singleton.mp hp]; exact hb)
    (fun g u hg => by obtain ⟨x, hx, rfl⟩ := oweL_pos hg; cases u; rw [lv_at]; exact hl x hx)

/-! ## The facts every device may use -/

/-- Every cell's invariant and that its round is open. -/
def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) : records m K ⊢ cellInv ER (sched m) (K ck) (kcell ck) := by
  unfold records
  iintro ⟨H, -⟩
  iapply (show (bigSep Finset.univ fun ck : Dev nD × Fin 15 => (cellInv ER (sched m) (K ck) (kcell ck) : sProp 𝕄)) ⊢ _ from bigSep_elim (Finset.mem_univ ck))
  iexact H
theorem reached_at (K : Dev nD × Fin 15 → ℕ) (ck : Dev nD × Fin 15) : records m K ⊢ reached ER (kcell ck) 0 := by
  unfold records
  iintro ⟨-, H⟩
  iapply (show (bigSep Finset.univ fun ck : Dev nD × Fin 15 => (reached ER (kcell ck) 0 : sProp 𝕄)) ⊢ _ from bigSep_elim (Finset.mem_univ ck))
  iexact H

/-- What a device owes, whatever it has waited for. -/
def owing (c : Dev nD) (l : List (Dev nD × Fin 15)) : sProp 𝕄 := iprop(∃ W, owes (c : Thread nD τ) (oweL l) W)

end Cert.Halving

end
-- ==== Proof.Steps.lean ====
/-
One rule per kind of effect the kernel issues, at this protocol: the three signals, the barrier wait,
the two copies, a send of the halving, a send of the way back, a wait on a transfer, and the loads and
stores of whole rows.
-/
module

public import proofs.«01_k».proof.Proof.Protocol

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

variable (K : Dev nD × Fin 15 → ℕ)

/-! ## Rows -/

omit [FloatOps F] [Named F] in
theorem cb_join {c : Dev nD} {a n b k d : ℕ} {f : CB F} (hd : a + n ≤ b ∨ b + k ≤ a) (hu : (b = a + n ∧ d = a) ∨ (a = b + k ∧ d = b)) :
    iprop(cbP c a n f ∗ cbP c b k f) ⊢ cbP c d (n + k) f := by
  unfold cbP
  refine (pointsTo_union (rowsOf_disjoint hd)).2.trans (Entails.of_eq ?_)
  rw [rowsOf_union hu]
omit [FloatOps F] [Named F] in
theorem cb_split {c : Dev nD} {a n b k d : ℕ} {f : CB F} (hd : a + n ≤ b ∨ b + k ≤ a) (hu : (b = a + n ∧ d = a) ∨ (a = b + k ∧ d = b)) :
    cbP c d (n + k) f ⊢ iprop(cbP c a n f ∗ cbP c b k f) := by
  unfold cbP
  rw [← rowsOf_union hu]
  exact (pointsTo_union (rowsOf_disjoint hd)).1
omit [FloatOps F] [Named F] in
theorem rv_split {c : Dev nD} {a n k : ℕ} {f : (⟨2, ![896, 1024]⟩ : Shape).Idx → F .bf16} :
    rvP c a (n + k) f ⊢ iprop(rvP c a n f ∗ rvP c (a + n) k f) := by
  unfold rvP
  rw [← rowsOf_union (R := 896) (Or.inl ⟨rfl, rfl⟩ : (a + n = a + n ∧ a = a) ∨ (a = a + n + k ∧ a = a + n))]
  exact (pointsTo_union (rowsOf_disjoint (Or.inl le_rfl))).1
omit [FloatOps F] [Named F] in
theorem rv_join {c : Dev nD} {a n k : ℕ} {f g : (⟨2, ![896, 1024]⟩ : Shape).Idx → F .bf16} :
    iprop(rvP c a n f ∗ rvP c (a + n) k g) ⊢ iprop(∃ h, rvP c a (n + k) h) := by
  unfold rvP
  rw [← rowsOf_union (R := 896) (Or.inl ⟨rfl, rfl⟩ : (a + n = a + n ∧ a = a) ∨ (a = a + n + k ∧ a = a + n))]
  refine (pointsTo_join (rowsOf_disjoint (Or.inl le_rfl))).trans ?_
  iintro H; iexists _; iexact H
omit [FloatOps F] [Named F] in
theorem cb_congr {c : Dev nD} {a n : ℕ} (hb : a + n ≤ 1024) {f g : CB F} (h : ∀ j : (⟨2, ![n, 1024]⟩ : Shape).Idx, f (rowAt a hb j) = g (rowAt a hb j)) :
    cbP c a n f = cbP c a n g := by
  unfold cbP
  exact pointsTo_congr fun i hi => by obtain ⟨j, rfl⟩ := exists_rowAt hb hi; exact h j

theorem rowsOf_subset {R a n b k : ℕ} (h : b ≤ a ∧ a + n ≤ b + k) : rowsOf R a n ⊆ rowsOf R b k := by
  intro i hi; rw [mem_rowsOf] at hi ⊢; omega

/-- A load of whole rows of the partial sum. -/
theorem wp_cb_load {c : Dev nD} {a n b N : ℕ} {off : Fin 2 → ℕ} (ho : off = ![a, 0]) (hb : a + n ≤ 1024) (hs : b ≤ a ∧ a + n ≤ b + N)
    {inb} {hl : cbM.view.LoadsAt (Rect.unit (s := S1024x1024) off ![n, 1024] inb).toLoadRect}
    {α : Type} {Q : α → sProp 𝕄} {k : ((⟨2, ![n, 1024]⟩ : Shape).Idx → F .bf16) → Prog (TpuEff nD τ sig (Elt F) Λ₀ .tc) α} {f : CB F} :
    cbP c b N f
      ⊢ iprop((cbP c b N f -∗ wp frame (wpE (defs₀ (F := F)) 𝒱₀ (c : Thread nD τ) none) Set.univ (k fun j => f (rowAt a hb j)) Q)
        -∗ wp frame (wpE (defs₀ (F := F)) 𝒱₀ (c : Thread nD τ) none) Set.univ
            (.op (.load cbM (Rect.unit (s := S1024x1024) off ![n, 1024] inb).toLoadRect hl) k) Q) := by
  have e : (fun j => f (rowAt a hb j)) = (cbM.access (Rect.unit (s := S1024x1024) off ![n, 1024] inb)).read (Elt F) f :=
    funext fun j => (cb_read ho inb hb f j).symm
  rw [e]
  exact wp_load_rect 𝒱₀ (c : Thread nD τ) none Set.univ (m := cbM) (r := Rect.unit (s := S1024x1024) off ![n, 1024] inb) (S := rowsOf 1024 b N) (by
    rw [show (cbM.access (Rect.unit (s := S1024x1024) off ![n, 1024] inb)).set = _ from cb_set ho inb]; exact rowsOf_subset hs)

/-- A load of whole rows of the receive buffer. -/
theorem wp_rv_load {c : Dev nD} {a n : ℕ} {off : Fin 2 → ℕ} (ho : off = ![a, 0]) (hb : a + n ≤ 896)
    {inb} {hl : rvM.view.LoadsAt (Rect.unit (s := S896x1024) off ![n, 1024] inb).toLoadRect}
    {α : Type} {Q : α → sProp 𝕄} {k : ((⟨2, ![n, 1024]⟩ : Shape).Idx → F .bf16) → Prog (TpuEff nD τ sig (Elt F) Λ₀ .tc) α} {f : (⟨2, ![896, 1024]⟩ : Shape).Idx → F .bf16} :
    rvP c a n f
      ⊢ iprop((rvP c a n f -∗ wp frame (wpE (defs₀ (F := F)) 𝒱₀ (c : Thread nD τ) none) Set.univ (k fun j => f (rowAt a hb j)) Q)
        -∗ wp frame (wpE (defs₀ (F := F)) 𝒱₀ (c : Thread nD τ) none) Set.univ
            (.op (.load rvM (Rect.unit (s := S896x1024) off ![n, 1024] inb).toLoadRect hl) k) Q) := by
  have e : (fun j => f (rowAt a hb j)) = (rvM.access (Rect.unit (s := S896x1024) off ![n, 1024] inb)).read (Elt F) f :=
    funext fun j => (rv_read ho inb hb f j).symm
  rw [e]
  exact wp_load_rect 𝒱₀ (c : Thread nD τ) none Set.univ (m := rvM) (r := Rect.unit (s := S896x1024) off ![n, 1024] inb) (S := rowsOf 896 a n) (by
    rw [show (rvM.access (Rect.unit (s := S896x1024) off ![n, 1024] inb)).set = _ from rv_set ho inb])

/-- A store of whole rows of the partial sum. -/
theorem wp_cb_store {c : Dev nD} {a n : ℕ} {off : Fin 2 → ℕ} (ho : off = ![a, 0]) (hb : a + n ≤ 1024) (G : CB F)
    {inb} {w : (⟨2, ![n, 1024]⟩ : Shape).Idx → F .bf16} (hw : ∀ j, w j = G (rowAt a hb j))
    {hx : (cbM.access (Rect.unit (s := S1024x1024) off ![n, 1024] inb)).Stores Finset.univ} {hm}
    {α : Type} {Q : α → sProp 𝕄} {k : PUnit → Prog (TpuEff nD τ sig (Elt F) Λ₀ .tc) α} {f : CB F} :
    cbP c a n f
      ⊢ iprop((cbP c a n G -∗ wp frame (wpE (defs₀ (F := F)) 𝒱₀ (c : Thread nD τ) none) Set.univ (k ⟨⟩) Q)
        -∗ wp frame (wpE (defs₀ (F := F)) 𝒱₀ (c : Thread nD τ) none) Set.univ
            (.op (.store cbM (Rect.unit (s := S1024x1024) off ![n, 1024] inb) w Finset.univ hx hm) k) Q) := by
  have hset : (cbM.access (Rect.unit (s := S1024x1024) off ![n, 1024] inb)).set = rowsOf 1024 a n := cb_set ho inb
  have e : cbP c a n G = (cbM.view.loc (c : Thread nD τ) ↦[rowsOf 1024 a n]{fullShare}
      ((cbM.access (Rect.unit (s := S1024x1024) off ![n, 1024] inb)).write (Elt F) f w Finset.univ) : sProp 𝕄) := by
    unfold cbP
    exact (pointsTo_congr fun i hi => cb_write ho inb hb f G w hw i hi).symm
  rw [e]
  exact wp_store 𝒱₀ (c : Thread nD τ) none Set.univ (m := cbM) (r := Rect.unit (s := S1024x1024) off ![n, 1024] inb) (Mk := Finset.univ)
    (S := rowsOf 1024 a n) (by rw [View.setOn_univ, hset])

/-! ## The handshake -/

/-- The signal to the partner `pal d c`, handing over the slot into which it sends. -/
theorem wp_bar (d : Fin 3) {c p : Dev nD} (hp : p = pal d c) {n : ℤ} (hn : n = ((1 : ℕ) : ℤ)) {l : List (Dev nD × Fin 15)}
    {f : (⟨2, ![896, 1024]⟩ : Shape).Idx → F .bf16} {α : Type} {Q : α → sProp 𝕄} {k : PUnit → Prog (TpuEff nD τ sig (Elt F) Λ₀ .tc) α} :
    iprop(records m K ∗ owing c ((pal d c, 0) :: l) ∗ dutyTok ER (kcell (pal d c, 0)) 0 d ∗ rvP c (slot d) (len d) f)
      ⊢ iprop((owing c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc p : Thread nD τ) barS n) k) Q) := by
  subst hp hn
  unfold owing
  iintro ⟨#HR, ⟨%W, HO⟩, Ht, Hrv⟩ Hk
  iapply (Rounds.wp_signal 𝒱₀ ER (sched m) (c : Thread nD τ) none (dst := (pal d c : Thread nD τ)) (κ := K (pal d c, 0))
      (d := d) (r := 0) (by rw [show (((pal d c : Thread nD τ), SemLoc.reg barS) : GSem nD τ sig) = kcell (pal d c, 0) from rfl, duties_at]; exact Finset.mem_univ _)
      (amount_at m (pal d c) 0 d) () (oweL l) rfl (W := W)) $$ [HO Ht Hrv]
  · isplitr; · iapply (inv_at m K (pal d c, 0)); iexact HR
    isplitl [HO]; · iexact HO
    isplitl [Ht]; · iexact Ht
    isplitl [Hrv]
    · rw [show (sched m).payload ((pal d c : Thread nD τ), SemLoc.reg barS) 0 d = iprop(∃ f, rvP c (slot d) (len d) f) from
        (payload_at m (pal d c) 0 d).trans (by show barPay (pal d c) d = _; unfold barPay; rw [pal_pal])]
      iexists f; iexact Hrv
    iapply (reached_at m K (pal d c, 0)); iexact HR
  iintro HO
  iapply Hk
  iexists W; iexact HO

/-- The barrier wait: the slots of the three partners' receive buffers come with it. -/
theorem wp_meet {c : Dev nD} {n : ℤ} (hn : n = ((3 : ℕ) : ℤ)) {l : List (Dev nD × Fin 15)} (hl : ∀ x ∈ l, 1 < lvl x.2)
    {α : Type} {Q : α → sProp 𝕄} {k : PUnit → Prog (TpuEff nD τ sig (Elt F) Λ₀ .tc) α} :
    iprop(records m K ∗ levAts L lv ∗ cred (tallyAt (kcell (c, 0)) () 3) ∗ owing c l ∗ atPos ER (kcell (c, 0)) 0 ∅ 0)
      ⊢ iprop(((owing c l ∗ atPos ER (kcell (c, 0)) 1 ∅ 0 ∗ barPay c 0 ∗ barPay c 1 ∗ barPay c 2)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS n) k) Q) := by
  subst hn
  unfold owing
  iintro ⟨#HR, #Hlev, Hc, ⟨%W, HO⟩, Hat⟩ Hk
  iapply (Rounds.wp_wait_rest_token 𝒱₀ ER (sched m) (c : Thread nD τ) none (κ := K (c, 0))
      (wpE_semWait_eq 𝒱₀ (c : Thread nD τ) none Set.univ) (Set.mem_univ _) () (O := oweL l) (W := W) (R := 0) (m := 0) (T := ∅)
      (by rw [Nat.zero_add]; exact (expect_bar m c).symm)) $$ [Hc HO Hat]
  · isplitr; · iapply (inv_at m K (c, 0)); iexact HR
    isplitl [Hc]; · iexact Hc
    isplitl [HO]; · iexact HO
    isplitr; · iapply (mayWait_of c (.reg barS) 1 (le_of_eq (lv_at c 0)) l hl); iexact Hlev
    iexact Hat
  iintro ⟨HO, Hat, -, Hpay⟩
  ihave Hp := (show (bigSep ((sched m).duties ((c : Thread nD τ), SemLoc.reg barS) 0 \ ∅) (fun d => (sched m).payload ((c : Thread nD τ), SemLoc.reg barS) 0 d) : sProp 𝕄)
      ⊢ iprop(barPay c 0 ∗ barPay c 1 ∗ barPay c 2) from Entails.of_eq (rest_bar m c)) $$ Hpay
  iapply Hk
  isplitl [HO]; · iexists _; iexact HO
  isplitl [Hat]; · iexact Hat
  iexact Hp

/-- A wait on a transfer cell. -/
theorem wp_land (j : Fin 15) (hj : j ≠ 0) {c : Dev nD} {q : DmaSem sig} (hq : (.dma q : SemLoc sig) = csem j)
    {sp sp' : Space} {s : Shape} {e : EltTy} {src : Memref sig .tc sp s e} {dst : Memref sig .tc sp' s e} {h1 h2}
    (hN : dst.view.dmaCredit = amt j) {l : List (Dev nD × Fin 15)} (hl : ∀ x ∈ l, lvl j < lvl x.2)
    {α : Type} {Q : α → sProp 𝕄} {k : PUnit → Prog (TpuEff nD τ sig (Elt F) Λ₀ .tc) α} :
    iprop(records m K ∗ levAts L lv ∗ cred (tallyAt (kcell (c, j)) () (amt j)) ∗ owing c l ∗ atPos ER (kcell (c, j)) 0 ∅ 0)
      ⊢ iprop(((owing c l ∗ atPos ER (kcell (c, j)) 1 ∅ 0 ∗ pay m c j 0)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  unfold owing
  iintro ⟨#HR, #Hlev, Hc, ⟨%W, HO⟩, Hat⟩ Hk
  have hw : ∀ K' : PUnit → sProp 𝕄, wpE (defs₀ (F := F)) 𝒱₀ (c : Thread nD τ) none Set.univ (.waitDma2 q src dst h1 h2) K'
      = waitSpec (c : Thread nD τ) Set.univ (csem j) (amt j) K' := by
    intro K'; rw [← hq, ← hN]; exact wpE_waitDma2_eq 𝒱₀ (c : Thread nD τ) none Set.univ K'
  iapply (Rounds.wp_wait_rest_token 𝒱₀ ER (sched m) (c : Thread nD τ) none (κ := K (c, j)) (sm := csem j) (k' := amt j)
      hw (Set.mem_univ _) () (O := oweL l) (W := W) (R := 0) (m := 0) (T := ∅)
      (by rw [Nat.zero_add]; exact (expect_dma m c j hj).symm)) $$ [Hc HO Hat]
  · isplitr; · iapply (inv_at m K (c, j)); iexact HR
    isplitl [Hc]; · iexact Hc
    isplitl [HO]; · iexact HO
    isplitr; · iapply (mayWait_of c (csem j) (lvl j) (le_of_eq (lv_at c j)) l hl); iexact Hlev
    iexact Hat
  iintro ⟨HO, Hat, -, Hpay⟩
  ihave Hp := (Entails.of_eq (rest_dma m c j hj)) $$ Hpay
  iapply Hk
  isplitl [HO]; · iexists _; iexact HO
  isplitl [Hat]; · iexact Hat
  iexact Hp

/-! ## The transfers -/

/-- A cell's invariant closes once its round is consumed, and the counter is back at zero. -/
theorem close_at (c : Dev nD) (j : Fin 15) :
    iprop(records m K ∗ atPos ER (kcell (c, j)) 1 ∅ 0) ⊢ |={Set.univ}=> (semVal (kcell (c, j)) 0 : sProp 𝕄) := by
  iintro ⟨#HR, Hat⟩
  iapply (Rounds.cell_close ER (sched m) (Set.mem_univ (K (c, j))) (fun h => h) (R := 0 + 1) (duties_later m (kcell (c, j))))
  isplitr; · iapply (inv_at m K (c, j)); iexact HR
  iexact Hat

/-- The copy of the device's heads of the keys. -/
theorem wp_kcopy {c : Dev nD} {q : DmaSem sig} (hq : (.dma q : SemLoc sig) = csem 1) {hsrc hdst hsem}
    {fd : Buf (Elt F) (kDst.view.loc (c : Thread nD τ))} {α : Type} {Q : α → sProp 𝕄} {k : PUnit → Prog (TpuEff nD τ sig (Elt F) Λ₀ .tc) α} :
    iprop(records m K ∗ ((kSrc c).view.loc (c : Thread nD τ) ↦[(kSrc c).view.set]{fullShare} m ((c : Thread nD τ).loc main_arg2))
        ∗ (kDst.view.loc (c : Thread nD τ) ↦[kDst.view.set]{fullShare} fd) ∗ dutyTok ER (kcell (c, 1)) 0 0)
      ⊢ iprop((cred (tallyAt (kcell (c, 1)) () (amt 1)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (kSrc c) (.here kDst) (.dma q) hsrc hdst hsem) k) Q) := by
  have e : (((c : Thread nD τ), SemLoc.dma q) : GSem nD τ sig) = kcell (c, 1) := by rw [hq]
  iintro ⟨#HR, Hs, Hd, Ht⟩
  have H := Rounds.wp_copy_pointsTo (Γ := PendingWaitsCtx.empty) (k := k) (Q := Q) (defs := defs₀ (F := F)) 𝒱₀ ER (sched m) (c : Thread nD τ) none (src := kSrc c) (dst := kDst) (sem := .dma q)
    (hsrc := hsrc) (hdst := hdst) (hsem := hsem) (q := fullShare) (fs := m ((c : Thread nD τ).loc main_arg2)) (fd := fd) (r := 0) (d := 0) (κ := K (c, 1))
    (by rw [e, duties_at]; exact zero_mem_dut 1) () (amt 1) rfl (by rw [e]; exact amount_at m c 1 0)
    (by rw [e, payload_at]; show _ ⊢ kPay m c; unfold kPay; iintro H; iexists fd; iexact H) (Es := Set.univ)
  rw [e] at H
  iapply H
  isplitr; · iapply (inv_at m K (c, 1)); iexact HR
  isplitl [Hs]; · iexact Hs
  isplitl [Hd]; · iexact Hd
  isplitl [Ht]; · iexact Ht
  iapply (reached_at m K (c, 1)); iexact HR

/-- The copy of the device's heads of the values. -/
theorem wp_vcopy {c : Dev nD} {q : DmaSem sig} (hq : (.dma q : SemLoc sig) = csem 2) {hsrc hdst hsem}
    {fd : Buf (Elt F) (vDst.view.loc (c : Thread nD τ))} {α : Type} {Q : α → sProp 𝕄} {k : PUnit → Prog (TpuEff nD τ sig (Elt F) Λ₀ .tc) α} :
    iprop(records m K ∗ ((vSrc c).view.loc (c : Thread nD τ) ↦[(vSrc c).view.set]{fullShare} m ((c : Thread nD τ).loc main_arg3))
        ∗ (vDst.view.loc (c : Thread nD τ) ↦[vDst.view.set]{fullShare} fd) ∗ dutyTok ER (kcell (c, 2)) 0 0)
      ⊢ iprop((cred (tallyAt (kcell (c, 2)) () (amt 2)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (vSrc c) (.here vDst) (.dma q) hsrc hdst hsem) k) Q) := by
  have e : (((c : Thread nD τ), SemLoc.dma q) : GSem nD τ sig) = kcell (c, 2) := by rw [hq]
  iintro ⟨#HR, Hs, Hd, Ht⟩
  have H := Rounds.wp_copy_pointsTo (Γ := PendingWaitsCtx.empty) (k := k) (Q := Q) (defs := defs₀ (F := F)) 𝒱₀ ER (sched m) (c : Thread nD τ) none (src := vSrc c) (dst := vDst) (sem := .dma q)
    (hsrc := hsrc) (hdst := hdst) (hsem := hsem) (q := fullShare) (fs := m ((c : Thread nD τ).loc main_arg3)) (fd := fd) (r := 0) (d := 0) (κ := K (c, 2))
    (by rw [e, duties_at]; exact zero_mem_dut 2) () (amt 2) rfl (by rw [e]; exact amount_at m c 2 0)
    (by rw [e, payload_at]; show _ ⊢ vPay m c; unfold vPay; iintro H; iexists fd; iexact H) (Es := Set.univ)
  rw [e] at H
  iapply H
  isplitr; · iapply (inv_at m K (c, 2)); iexact HR
  isplitl [Hs]; · iexact Hs
  isplitl [Hd]; · iexact Hd
  isplitl [Ht]; · iexact Ht
  iapply (reached_at m K (c, 2)); iexact HR

theorem slot_len (s : Fin 3) : slot s + len s ≤ 896 := by revert s; decide
theorem keep_len (s : Fin 3) (c : Dev nD) : keep s c + len s ≤ 1024 := by revert s c; decide
theorem give_len (s : Fin 3) (c : Dev nD) : give s c + len s ≤ 1024 := by revert s c; decide

/-- A send of the halving: the rows given away, and the right to them, go to the partner's slot. -/
theorem wp_halve (s : Fin 3) {n : ℕ} (hn : n = len s) {c p : Dev nD} (hp : p = pal s c) {off off' : Fin 2 → ℕ}
    (ho : off = ![give s c, 0]) (ho' : off' = ![slot s, 0]) {inb inb' u u'} {qS qR : DmaSem sig}
    (hS : (.dma qS : SemLoc sig) = csem (hSnd s)) (hR : (.dma qR : SemLoc sig) = csem (hRcv s))
    {hsc : (rvM.slice (Rect.unit (s := S896x1024) off' ![n, 1024] inb') u' : Memref sig (Dev.tc p : Thread nD τ).2.kind .vmem _ .bf16).view.ref.isScScratch = false}
    {hsrc hdst hsem} {α : Type} {Q : α → sProp 𝕄} {k : PUnit → Prog (TpuEff nD τ sig (Elt F) Λ₀ .tc) α} {l : List (Dev nD × Fin 15)}
    {f : (⟨2, ![896, 1024]⟩ : Shape).Idx → F .bf16} :
    iprop(records m K ∗ cbP c (give s c) n (run m s.val c) ∗ rvP (pal s c) (slot s) (len s) f ∗ owing c ((pal s c, hRcv s) :: l)
        ∗ dutyTok ER (kcell (c, hSnd s)) 0 0 ∗ dutyTok ER (kcell (pal s c, hRcv s)) 0 0)
      ⊢ iprop(((cred (tallyAt (kcell (c, hSnd s)) () (amt (hSnd s))) ∗ owing c l)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (cbM.slice (Rect.unit (s := S1024x1024) off ![n, 1024] inb) u)
              (.remote (Dev.tc p : Thread nD τ) (rvM.slice (Rect.unit (s := S896x1024) off' ![n, 1024] inb') u') (.dma qS) hsc) (.dma qR) hsrc hdst hsem) k) Q) := by
  subst hp hn
  have e1 : (((c : Thread nD τ), SemLoc.dma qS) : GSem nD τ sig) = kcell (c, hSnd s) := by rw [hS]
  have e2 : (((pal s c : Thread nD τ), SemLoc.dma qR) : GSem nD τ sig) = kcell (pal s c, hRcv s) := by rw [hR]
  have hsetS : (cbM.slice (Rect.unit (s := S1024x1024) off ![len s, 1024] inb) u).view.set = rowsOf 1024 (give s c) (len s) := cb_set ho inb
  have hsetD : (rvM.slice (Rect.unit (s := S896x1024) off' ![len s, 1024] inb') u').view.set = rowsOf 896 (slot s) (len s) := rv_set ho' inb'
  have hwr : rvP (pal s c) (slot s) (len s) (landed m s (pal s c)) = (rvM.view.loc (pal s c : Thread nD τ) ↦[rowsOf 896 (slot s) (len s)]{fullShare}
      ((rvM.slice (Rect.unit (s := S896x1024) off' ![len s, 1024] inb') u').view.write (Elt F) f
        ((cbM.slice (Rect.unit (s := S1024x1024) off ![len s, 1024] inb) u).view.read (Elt F) (run m s.val c)) Finset.univ) : sProp 𝕄) := by
    unfold rvP
    refine (pointsTo_congr fun i hi => rv_write ho' inb' (slot_len s) f _ _ (fun j => ?_) i hi).symm
    rw [landed_row m s (pal s c) (slot_len s) (keep_len s (pal s c)), pal_pal]
    refine (cb_read ho inb (give_len s c) (run m s.val c) j).trans (congrArg (run m s.val c) ?_)
    funext d
    match d with
    | ⟨0, _⟩ => apply Fin.ext; show give s c + (j 0).val = keep s (pal s c) + (j 0).val; rw [keep_pal]
    | ⟨1, _⟩ => rfl
  unfold owing
  iintro ⟨#HR, Hcb, Hrv, ⟨%W, HO⟩, HtS, HtR⟩ Hk
  have H := Rounds.wp_send_landing_pointsTo (Γ := PendingWaitsCtx.empty) (k := k) (Q := Q) (defs := defs₀ (F := F)) 𝒱₀ ER (sched m) (c : Thread nD τ) none
    (c' := (pal s c : Thread nD τ)) (hsc := hsc) (sS := .dma qS) (sem := .dma qR)
    (hsrc := hsrc) (hdst := hdst) (hsem := hsem) (q := fullShare) (fs := run m s.val c) (fd := f) (r₁ := 0) (r₂ := 0) (d₁ := 0) (d₂ := 0)
    (κ₁ := K (c, hSnd s)) (κ₂ := K (pal s c, hRcv s))
    (by rw [e1, duties_at]; exact zero_mem_dut _) (by rw [e2, duties_at]; exact zero_mem_dut _)
    () () (cr (len s)) rfl (by rw [e1, amount_at, amt_hSnd]) (by rw [e2, amount_at, amt_hRcv])
    (oweL l) (by rw [e2, ← amt_hRcv]) (W := W)
    (by rw [e1, payload_at, pay_hSnd])
    (by
      rw [e2, payload_at, pay_hRcv, hsetS, hsetD]
      unfold rsPay
      rw [hwr, pal_pal, keep_pal]
      unfold cbP
      exact sep_mono_right (by iintro H; iexists _; iexact H)) (Es := Set.univ)
  rw [e1, e2, hsetS, hsetD, ← amt_hSnd] at H
  iapply H $$ [Hcb Hrv HO HtS HtR]
  · isplitr; · iapply (inv_at m K (c, hSnd s)); iexact HR
    isplitr; · iapply (inv_at m K (pal s c, hRcv s)); iexact HR
    isplitl [Hcb]; · unfold cbP; iexact Hcb
    isplitl [Hrv]; · unfold rvP; iexact Hrv
    isplitl [HO]; · iexact HO
    isplitl [HtS]; · iexact HtS
    isplitr; · iapply (reached_at m K (c, hSnd s)); iexact HR
    isplitl [HtR]; · iexact HtR
    iapply (reached_at m K (pal s c, hRcv s)); iexact HR
  iintro ⟨Hc, HO⟩
  iapply Hk
  isplitl [Hc]; · iexact Hc
  iexists W; iexact HO

/-- A send of the way back: the finished rows go into the same rows of the partner. -/
theorem wp_gather (s : Fin 3) {n : ℕ} (hn : n = len s) {c p : Dev nD} (hp : p = pal s c) {off : Fin 2 → ℕ}
    (ho : off = ![keep s c, 0]) {inb u inb' u'} {qS qR : DmaSem sig}
    (hS : (.dma qS : SemLoc sig) = csem (gSnd s)) (hR : (.dma qR : SemLoc sig) = csem (gRcv s))
    {hsc : (cbM.slice (Rect.unit (s := S1024x1024) off ![n, 1024] inb') u' : Memref sig (Dev.tc p : Thread nD τ).2.kind .vmem _ .bf16).view.ref.isScScratch = false}
    {hsrc hdst hsem} {α : Type} {Q : α → sProp 𝕄} {k : PUnit → Prog (TpuEff nD τ sig (Elt F) Λ₀ .tc) α} {l : List (Dev nD × Fin 15)} {g : CB F} :
    iprop(records m K ∗ cbP c (keep s c) n (fin m) ∗ cbP (pal s c) (keep s c) (len s) g ∗ owing c ((pal s c, gRcv s) :: l)
        ∗ dutyTok ER (kcell (c, gSnd s)) 0 0 ∗ dutyTok ER (kcell (pal s c, gRcv s)) 0 0)
      ⊢ iprop(((cred (tallyAt (kcell (c, gSnd s)) () (amt (gSnd s))) ∗ owing c l)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (cbM.slice (Rect.unit (s := S1024x1024) off ![n, 1024] inb) u)
              (.remote (Dev.tc p : Thread nD τ) (cbM.slice (Rect.unit (s := S1024x1024) off ![n, 1024] inb') u') (.dma qS) hsc) (.dma qR) hsrc hdst hsem) k) Q) := by
  subst hp hn
  have e1 : (((c : Thread nD τ), SemLoc.dma qS) : GSem nD τ sig) = kcell (c, gSnd s) := by rw [hS]
  have e2 : (((pal s c : Thread nD τ), SemLoc.dma qR) : GSem nD τ sig) = kcell (pal s c, gRcv s) := by rw [hR]
  have hsetS : (cbM.slice (Rect.unit (s := S1024x1024) off ![len s, 1024] inb) u).view.set = rowsOf 1024 (keep s c) (len s) := cb_set ho inb
  have hwr : cbP (pal s c) (keep s c) (len s) (fin m) = (cbM.view.loc (pal s c : Thread nD τ) ↦[rowsOf 1024 (keep s c) (len s)]{fullShare}
      ((cbM.slice (Rect.unit (s := S1024x1024) off ![len s, 1024] inb') u').view.write (Elt F) g
        ((cbM.slice (Rect.unit (s := S1024x1024) off ![len s, 1024] inb) u).view.read (Elt F) (fin m)) Finset.univ) : sProp 𝕄) := by
    unfold cbP
    exact (pointsTo_congr fun i hi => cb_write ho inb' (keep_len s c) g _ _ (fun j => cb_read ho inb (keep_len s c) (fin m) j) i hi).symm
  unfold owing
  iintro ⟨#HR, Hcb, Hd, ⟨%W, HO⟩, HtS, HtR⟩ Hk
  have H := Rounds.wp_send_pointsTo (Γ := PendingWaitsCtx.empty) (k := k) (Q := Q) (defs := defs₀ (F := F)) 𝒱₀ ER (sched m) (c : Thread nD τ) none
    (c' := (pal s c : Thread nD τ)) (hsc := hsc) (sS := .dma qS) (sem := .dma qR)
    (hsrc := hsrc) (hdst := hdst) (hsem := hsem) (q := fullShare) (fs := fin m) (fd := g) (r₁ := 0) (r₂ := 0) (d₁ := 0) (d₂ := 0)
    (κ₁ := K (c, gSnd s)) (κ₂ := K (pal s c, gRcv s))
    (by rw [e1, duties_at]; exact zero_mem_dut _) (by rw [e2, duties_at]; exact zero_mem_dut _)
    () () (cr (len s)) rfl (by rw [e1, amount_at, amt_gSnd]) (by rw [e2, amount_at, amt_gRcv])
    (oweL l) (by rw [e2, ← amt_gRcv]) (W := W)
    (by rw [e1, payload_at, pay_gSnd, hsetS]; unfold cbP; exact Entails.refl _)
    (by
      rw [e2, payload_at, pay_gRcv, give_pal, hsetS, hwr]) (Es := Set.univ)
  rw [e1, e2, hsetS, ← amt_gSnd] at H
  iapply H $$ [Hcb Hd HO HtS HtR]
  · isplitr; · iapply (inv_at m K (c, gSnd s)); iexact HR
    isplitr; · iapply (inv_at m K (pal s c, gRcv s)); iexact HR
    isplitl [Hcb]; · unfold cbP; iexact Hcb
    isplitl [Hd]; · unfold cbP; iexact Hd
    isplitl [HO]; · iexact HO
    isplitl [HtS]; · iexact HtS
    isplitr; · iapply (reached_at m K (c, gSnd s)); iexact HR
    isplitl [HtR]; · iexact HtR
    iapply (reached_at m K (pal s c, gRcv s)); iexact HR
  iintro ⟨Hc, HO⟩
  iapply Hk
  isplitl [Hc]; · iexact Hc
  iexists W; iexact HO

end Cert.Halving

end
-- ==== Proof.Body1.lean ====
/-
The first third of the kernel at a device: the handshake, the copies of the keys and the values, and
the loads of everything the attention reads.
-/
module

public import proofs.«01_k».proof.Proof.Steps

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (K : Dev nD × Fin 15 → ℕ)

/-! ## What a device still owes, point by point -/

abbrev l14 (c : Dev nD) : List (Dev nD × Fin 15) := [(pal 0 c, 14)]
abbrev l13 (c : Dev nD) : List (Dev nD × Fin 15) := (pal 1 c, 13) :: l14 c
abbrev l12 (c : Dev nD) : List (Dev nD × Fin 15) := (pal 2 c, 12) :: l13 c
abbrev l11 (c : Dev nD) : List (Dev nD × Fin 15) := (pal 2 c, 11) :: l12 c
abbrev l10 (c : Dev nD) : List (Dev nD × Fin 15) := (pal 1 c, 10) :: l11 c
abbrev l9 (c : Dev nD) : List (Dev nD × Fin 15) := (pal 0 c, 9) :: l10 c

theorem above {b : ℕ} (l : List (Dev nD × Fin 15)) (h : ∀ k ∈ l.map Prod.snd, b < lvl k) : ∀ x ∈ l, b < lvl x.2 :=
  fun x hx => h _ (List.mem_map_of_mem hx)

/-- The facts at hand throughout: the cells' records and the levels. -/
def cx : sProp 𝕄 := iprop(records m K ∗ levAts L lv)
instance cx_persistent : BI.Persistent (cx m K) := by unfold cx; infer_instance
theorem cx_rec : cx m K ⊢ records m K := by unfold cx; iintro ⟨H, -⟩; iexact H
theorem cx_lev : cx m K ⊢ levAts L lv := by unfold cx; iintro ⟨-, H⟩; iexact H

/-! ## The heads: sources, landings -/

def kSrcP (c : Dev nD) : sProp 𝕄 := (kSrc c).view.loc (c : Thread nD τ) ↦[(kSrc c).view.set]{fullShare} m ((c : Thread nD τ).loc main_arg2)
def vSrcP (c : Dev nD) : sProp 𝕄 := (vSrc c).view.loc (c : Thread nD τ) ↦[(vSrc c).view.set]{fullShare} m ((c : Thread nD τ).loc main_arg3)
def kDstP (c : Dev nD) (fd : Buf (Elt F) (kDst.view.loc (c : Thread nD τ))) : sProp 𝕄 := kDst.view.loc (c : Thread nD τ) ↦[kDst.view.set]{fullShare} fd
def vDstP (c : Dev nD) (fd : Buf (Elt F) (vDst.view.loc (c : Thread nD τ))) : sProp 𝕄 := vDst.view.loc (c : Thread nD τ) ↦[vDst.view.set]{fullShare} fd
def kGot (c : Dev nD) : sProp 𝕄 := iprop(∃ fd, kDstP c (kDst.view.write (Elt F) fd ((kSrc c).view.read (Elt F) (m ((c : Thread nD τ).loc main_arg2))) Finset.univ))
def vGot (c : Dev nD) : sProp 𝕄 := iprop(∃ fd, vDstP c (vDst.view.write (Elt F) fd ((vSrc c).view.read (Elt F) (m ((c : Thread nD τ).loc main_arg3))) Finset.univ))

theorem kPay_eq (c : Dev nD) : kPay m c ⊢ iprop(kGot m c ∗ kSrcP m c) := by
  unfold kPay kGot kSrcP kDstP
  iintro ⟨%fd, H, Hs⟩
  isplitl [H]; · iexists fd; iexact H
  iexact Hs
theorem vPay_eq (c : Dev nD) : vPay m c ⊢ iprop(vGot m c ∗ vSrcP m c) := by
  unfold vPay vGot vSrcP vDstP
  iintro ⟨%fd, H, Hs⟩
  isplitl [H]; · iexists fd; iexact H
  iexact Hs

/-- The load of the landed keys. -/
theorem wp_kload {c : Dev nD} {hl : kvM.view.LoadsAt kRect.toLoadRect}
    {α : Type} {Q : α → sProp 𝕄} {k : (S1x1024x8x128.Idx → F .f32) → Prog (TpuEff nD τ sig (Elt F) Λ₀ .tc) α} :
    kGot m c ⊢ iprop((kGot m c -∗ wp frame (wpE (defs₀ (F := F)) 𝒱₀ (c : Thread nD τ) none) Set.univ (k (kLd m c)) Q)
        -∗ wp frame (wpE (defs₀ (F := F)) 𝒱₀ (c : Thread nD τ) none) Set.univ (.op (.load kvM kRect.toLoadRect hl) k) Q) := by
  unfold kGot kDstP
  iintro ⟨%fd, H⟩ Hk
  have hset : (kvM.access kRect).set = kDst.view.set := (View.set_reshape (v := kvM.view.slice kRect) squeezes_S1x1024x8x128_S1024x8x128.numel_eq).symm
  have hv : (kvM.access kRect).read (Elt F) (kDst.view.write (Elt F) fd ((kSrc c).view.read (Elt F) (m ((c : Thread nD τ).loc main_arg2))) Finset.univ) = kLd m c :=
    read_write_reshape (kvM.view.slice kRect) (kM.view.slice (headRect c)) squeezes_S1x1024x8x128_S1024x8x128.numel_eq fd (m ((c : Thread nD τ).loc main_arg2))
  rw [← hv]
  iapply (wp_load_rect 𝒱₀ (c : Thread nD τ) none Set.univ (m := kvM) (r := kRect) (S := kDst.view.set) (by rw [hset])) $$ H
  iintro H
  iapply Hk
  iexists fd; iexact H

/-- The load of the landed values. -/
theorem wp_vload {c : Dev nD} {hl : kvM.view.LoadsAt vRect.toLoadRect}
    {α : Type} {Q : α → sProp 𝕄} {k : (S1x1024x8x128.Idx → F .f32) → Prog (TpuEff nD τ sig (Elt F) Λ₀ .tc) α} :
    vGot m c ⊢ iprop((vGot m c -∗ wp frame (wpE (defs₀ (F := F)) 𝒱₀ (c : Thread nD τ) none) Set.univ (k (vLd m c)) Q)
        -∗ wp frame (wpE (defs₀ (F := F)) 𝒱₀ (c : Thread nD τ) none) Set.univ (.op (.load kvM vRect.toLoadRect hl) k) Q) := by
  unfold vGot vDstP
  iintro ⟨%fd, H⟩ Hk
  have hset : (kvM.access vRect).set = vDst.view.set := (View.set_reshape (v := kvM.view.slice vRect) squeezes_S1x1024x8x128_S1024x8x128.numel_eq).symm
  have hv : (kvM.access vRect).read (Elt F) (vDst.view.write (Elt F) fd ((vSrc c).view.read (Elt F) (m ((c : Thread nD τ).loc main_arg3))) Finset.univ) = vLd m c :=
    read_write_reshape (kvM.view.slice vRect) (vM.view.slice (headRect c)) squeezes_S1x1024x8x128_S1024x8x128.numel_eq fd (m ((c : Thread nD τ).loc main_arg3))
  rw [← hv]
  iapply (wp_load_rect 𝒱₀ (c : Thread nD τ) none Set.univ (m := kvM) (r := vRect) (S := vDst.view.set) (by rw [hset])) $$ H
  iintro H
  iapply Hk
  iexists fd; iexact H

/-! ## The staged operands -/

def inP (c : Dev nD) (b : Ref sig .tc) (X : b.ty.Contents (Elt F)) : sProp 𝕄 := ((c : Thread nD τ).loc b) ↦{fullShare} X

theorem hz2 : (![0, 0] : Fin 2 → Nat) = fun _ => 0 := funext fun a => by fin_cases a <;> rfl
theorem hz3 : (![0, 0, 0] : Fin 3 → Nat) = fun _ => 0 := funext fun a => by fin_cases a <;> rfl

theorem wp_xIn {c : Dev nD} {X : (cc0_stg0_0 : Ref sig .tc).ty.Contents (Elt F)} {inb} {hl : (Memref.whole cc0_stg0_0 : Memref sig .tc .vmem S1x1024x1024 .f32).view.LoadsAt (Rect.unit (s := S1x1024x1024) ![0, 0, 0] S1x1024x1024.size inb).toLoadRect}
    {α : Type} {Q : α → sProp 𝕄} {k : (S1x1024x1024.Idx → F .f32) → Prog (TpuEff nD τ sig (Elt F) Λ₀ .tc) α} :
    inP c cc0_stg0_0 X ⊢ iprop((inP c cc0_stg0_0 X -∗ wp frame (wpE (defs₀ (F := F)) 𝒱₀ (c : Thread nD τ) none) Set.univ (k X) Q)
      -∗ wp frame (wpE (defs₀ (F := F)) 𝒱₀ (c : Thread nD τ) none) Set.univ (.op (.load (Memref.whole cc0_stg0_0 : Memref sig .tc .vmem S1x1024x1024 .f32) (Rect.unit (s := S1x1024x1024) ![0, 0, 0] S1x1024x1024.size inb).toLoadRect hl) k) Q) := by
  have e : (Memref.whole cc0_stg0_0 : Memref sig .tc .vmem S1x1024x1024 .f32).view.readAt (Elt F) (Rect.unit (s := S1x1024x1024) ![0, 0, 0] S1x1024x1024.size inb).toLoadRect X = X :=
    Memref.readAt_unit_zero (Elt F) cc0_stg0_0 hz3 inb X
  have H := wp_load (defs := defs₀ (F := F)) (Γ := PendingWaitsCtx.empty) 𝒱₀ (c : Thread nD τ) none Set.univ (m := (Memref.whole cc0_stg0_0 : Memref sig .tc .vmem S1x1024x1024 .f32))
    (r := (Rect.unit (s := S1x1024x1024) ![0, 0, 0] S1x1024x1024.size inb).toLoadRect) (hl := hl) (k := k) (Q := Q) (S := Finset.univ) (q := fullShare) (f := X) (Finset.subset_univ _)
  rw [e] at H
  exact H

theorem wp_wqIn {c : Dev nD} {X : (cc0_stg1_0 : Ref sig .tc).ty.Contents (Elt F)} {inb} {hl : (Memref.whole cc0_stg1_0 : Memref sig .tc .vmem S1024x1024 .f32).view.LoadsAt (Rect.unit (s := S1024x1024) ![0, 0] S1024x1024.size inb).toLoadRect}
    {α : Type} {Q : α → sProp 𝕄} {k : (S1024x1024.Idx → F .f32) → Prog (TpuEff nD τ sig (Elt F) Λ₀ .tc) α} :
    inP c cc0_stg1_0 X ⊢ iprop((inP c cc0_stg1_0 X -∗ wp frame (wpE (defs₀ (F := F)) 𝒱₀ (c : Thread nD τ) none) Set.univ (k X) Q)
      -∗ wp frame (wpE (defs₀ (F := F)) 𝒱₀ (c : Thread nD τ) none) Set.univ (.op (.load (Memref.whole cc0_stg1_0 : Memref sig .tc .vmem S1024x1024 .f32) (Rect.unit (s := S1024x1024) ![0, 0] S1024x1024.size inb).toLoadRect hl) k) Q) := by
  have e : (Memref.whole cc0_stg1_0 : Memref sig .tc .vmem S1024x1024 .f32).view.readAt (Elt F) (Rect.unit (s := S1024x1024) ![0, 0] S1024x1024.size inb).toLoadRect X = X :=
    Memref.readAt_unit_zero (Elt F) cc0_stg1_0 hz2 inb X
  have H := wp_load (defs := defs₀ (F := F)) (Γ := PendingWaitsCtx.empty) 𝒱₀ (c : Thread nD τ) none Set.univ (m := (Memref.whole cc0_stg1_0 : Memref sig .tc .vmem S1024x1024 .f32))
    (r := (Rect.unit (s := S1024x1024) ![0, 0] S1024x1024.size inb).toLoadRect) (hl := hl) (k := k) (Q := Q) (S := Finset.univ) (q := fullShare) (f := X) (Finset.subset_univ _)
  rw [e] at H
  exact H

theorem wp_woIn {c : Dev nD} {X : (cc0_stg2_0 : Ref sig .tc).ty.Contents (Elt F)} {inb} {hl : (Memref.whole cc0_stg2_0 : Memref sig .tc .vmem S1024x1024 .f32).view.LoadsAt (Rect.unit (s := S1024x1024) ![0, 0] S1024x1024.size inb).toLoadRect}
    {α : Type} {Q : α → sProp 𝕄} {k : (S1024x1024.Idx → F .f32) → Prog (TpuEff nD τ sig (Elt F) Λ₀ .tc) α} :
    inP c cc0_stg2_0 X ⊢ iprop((inP c cc0_stg2_0 X -∗ wp frame (wpE (defs₀ (F := F)) 𝒱₀ (c : Thread nD τ) none) Set.univ (k X) Q)
      -∗ wp frame (wpE (defs₀ (F := F)) 𝒱₀ (c : Thread nD τ) none) Set.univ (.op (.load (Memref.whole cc0_stg2_0 : Memref sig .tc .vmem S1024x1024 .f32) (Rect.unit (s := S1024x1024) ![0, 0] S1024x1024.size inb).toLoadRect hl) k) Q) := by
  have e : (Memref.whole cc0_stg2_0 : Memref sig .tc .vmem S1024x1024 .f32).view.readAt (Elt F) (Rect.unit (s := S1024x1024) ![0, 0] S1024x1024.size inb).toLoadRect X = X :=
    Memref.readAt_unit_zero (Elt F) cc0_stg2_0 hz2 inb X
  have H := wp_load (defs := defs₀ (F := F)) (Γ := PendingWaitsCtx.empty) 𝒱₀ (c : Thread nD τ) none Set.univ (m := (Memref.whole cc0_stg2_0 : Memref sig .tc .vmem S1024x1024 .f32))
    (r := (Rect.unit (s := S1024x1024) ![0, 0] S1024x1024.size inb).toLoadRect) (hl := hl) (k := k) (Q := Q) (S := Finset.univ) (q := fullShare) (f := X) (Finset.subset_univ _)
  rw [e] at H
  exact H

theorem wp_outIn {c : Dev nD} {X : (cc0_stg3_0 : Ref sig .tc).ty.Contents (Elt F)} {inb} {hl : (Memref.whole cc0_stg3_0 : Memref sig .tc .vmem S1x1024x1024 .f32).view.LoadsAt (Rect.unit (s := S1x1024x1024) ![0, 0, 0] S1x1024x1024.size inb).toLoadRect}
    {α : Type} {Q : α → sProp 𝕄} {k : (S1x1024x1024.Idx → F .f32) → Prog (TpuEff nD τ sig (Elt F) Λ₀ .tc) α} :
    inP c cc0_stg3_0 X ⊢ iprop((inP c cc0_stg3_0 X -∗ wp frame (wpE (defs₀ (F := F)) 𝒱₀ (c : Thread nD τ) none) Set.univ (k X) Q)
      -∗ wp frame (wpE (defs₀ (F := F)) 𝒱₀ (c : Thread nD τ) none) Set.univ (.op (.load (Memref.whole cc0_stg3_0 : Memref sig .tc .vmem S1x1024x1024 .f32) (Rect.unit (s := S1x1024x1024) ![0, 0, 0] S1x1024x1024.size inb).toLoadRect hl) k) Q) := by
  have e : (Memref.whole cc0_stg3_0 : Memref sig .tc .vmem S1x1024x1024 .f32).view.readAt (Elt F) (Rect.unit (s := S1x1024x1024) ![0, 0, 0] S1x1024x1024.size inb).toLoadRect X = X :=
    Memref.readAt_unit_zero (Elt F) cc0_stg3_0 hz3 inb X
  have H := wp_load (defs := defs₀ (F := F)) (Γ := PendingWaitsCtx.empty) 𝒱₀ (c : Thread nD τ) none Set.univ (m := (Memref.whole cc0_stg3_0 : Memref sig .tc .vmem S1x1024x1024 .f32))
    (r := (Rect.unit (s := S1x1024x1024) ![0, 0, 0] S1x1024x1024.size inb).toLoadRect) (hl := hl) (k := k) (Q := Q) (S := Finset.univ) (q := fullShare) (f := X) (Finset.subset_univ _)
  rw [e] at H
  exact H

/-- The device's place on the mesh, as the kernel computes it. -/
def place (c : Dev nD) : BitVec 32 := Scalar.remsi (Scalar.divsi (Dev.word c) 1#32) 8#32

/-! ## The handshake and the first copy -/

set_option maxHeartbeats 1000000 in
theorem run29 (c : Dev nD) {f : (⟨2, ![896, 1024]⟩ : Shape).Idx → F .bf16} {fd} (Kt : (Σ' (d0 : Dev nD) (v2 : BitVec 32) (v4 : BitVec 32) (v5 : BitVec 32), BitVec 32) → sProp 𝕄) :
    iprop(cx m K ∗ owing c (duesL c) ∗ dutyTok ER (kcell (pal 0 c, 0)) 0 0 ∗ dutyTok ER (kcell (pal 1 c, 0)) 0 1 ∗ dutyTok ER (kcell (pal 2 c, 0)) 0 2
        ∗ cred (tallyAt (kcell (c, 0)) () 3) ∗ atPos ER (kcell (c, 0)) 0 ∅ 0 ∗ rvP c 0 896 f ∗ kSrcP m c ∗ kDstP c fd ∗ dutyTok ER (kcell (c, 1)) 0 0
        ∗ (∀ a b d, (owing c (l9 c) ∗ atPos ER (kcell (c, 0)) 1 ∅ 0 ∗ barPay c 0 ∗ barPay c 1 ∗ barPay c 2 ∗ cred (tallyAt (kcell (c, 1)) () (amt 1)))
            -∗ Kt ⟨c, place c, a, b, d⟩))
      ⊢ wp frame (wpE (defs₀ (F := F)) 𝒱₀ (c : Thread nD τ) none) Set.univ (k0_part29 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Kt := by
  simp only [k0_part29_eq_skeleton]; unfold k0_part29_skel
  simp only [semSignalWord, semWaitWord, Prog.lift, Prog.bind_op, Prog.bind_ret, Prog.pure_eq_ret, wp_deviceId]
  unfold duesL kSrcP kDstP place
  iintro ⟨#HC, HO, Ht0, Ht1, Ht2, Hc, Hat, Hrv, Hks, Hkd, Htk, Hk⟩
  ihave #HR := (cx_rec m K) $$ HC
  ihave #HL := (cx_lev m K) $$ HC
  ihave Hrv := (rv_split (a := 0) (n := 512) (k := 384)) $$ Hrv
  icases Hrv with ⟨Hrv0, Hrv⟩
  ihave Hrv := (rv_split (a := 512) (n := 256) (k := 128)) $$ Hrv
  icases Hrv with ⟨Hrv1, Hrv2⟩
  iapply (wp_bar m K 0 (dev1_eq c) (by rfl)) $$ [HO Ht0 Hrv0]
  · isplitr; · iexact HR
    isplitl [HO]; · iexact HO
    isplitl [Ht0]; · iexact Ht0
    iexact Hrv0
  iintro HO
  iapply (wp_bar m K 1 (dev2_eq c) (by rfl)) $$ [HO Ht1 Hrv1]
  · isplitr; · iexact HR
    isplitl [HO]; · iexact HO
    isplitl [Ht1]; · iexact Ht1
    iexact Hrv1
  iintro HO
  iapply (wp_bar m K 2 (dev3_eq c) (by rfl)) $$ [HO Ht2 Hrv2]
  · isplitr; · iexact HR
    isplitl [HO]; · iexact HO
    isplitl [Ht2]; · iexact Ht2
    iexact Hrv2
  iintro HO
  iapply (wp_meet m K (by rfl) (above (l9 c) (by show ∀ k ∈ ([9, 10, 11, 12, 13, 14] : List (Fin 15)), 1 < lvl k; decide))) $$ [Hc HO Hat]
  · isplitr; · iexact HR
    isplitr; · iexact HL
    isplitl [Hc]; · iexact Hc
    isplitl [HO] <;> iassumption
  iintro ⟨HO, Hat, Hp0, Hp1, Hp2⟩
  iapply (wp_kcopy m K (by rfl)) $$ [Hks Hkd Htk]
  · isplitr; · iexact HR
    isplitl [Hks]; · iexact Hks
    isplitl [Hkd] <;> iassumption
  iintro Hc
  rw [wp_ret]; imodintro
  iapply Hk
  isplitl [HO]; · iexact HO
  isplitl [Hat]; · iexact Hat
  isplitl [Hp0]; · iexact Hp0
  isplitl [Hp1]; · iexact Hp1
  isplitl [Hp2] <;> iassumption

/-! ## The second copy, the loads of the activations and the query projection, the waits for both copies -/

set_option maxHeartbeats 1000000 in
theorem run30 (c : Dev nD) {fd} (Kt : (Σ' (v36 : FVec F S1024x8x128 .bf16), FVec F S1024x8x128 .f32) → sProp 𝕄) :
    iprop(cx m K ∗ owing c (l9 c) ∗ vSrcP m c ∗ vDstP c fd ∗ dutyTok ER (kcell (c, 2)) 0 0 ∗ inP c cc0_stg0_0 (xStg m c) ∗ inP c cc0_stg1_0 (wqStg m c)
        ∗ cred (tallyAt (kcell (c, 1)) () (amt 1)) ∗ atPos ER (kcell (c, 1)) 0 ∅ 0 ∗ atPos ER (kcell (c, 2)) 0 ∅ 0
        ∗ ((owing c (l9 c) ∗ inP c cc0_stg0_0 (xStg m c) ∗ inP c cc0_stg1_0 (wqStg m c) ∗ kGot m c ∗ kSrcP m c ∗ vGot m c ∗ vSrcP m c
              ∗ atPos ER (kcell (c, 1)) 1 ∅ 0 ∗ atPos ER (kcell (c, 2)) 1 ∅ 0)
            -∗ Kt ⟨qAt m c, k0_pay83 (kLd m c)⟩))
      ⊢ wp frame (wpE (defs₀ (F := F)) 𝒱₀ (c : Thread nD τ) none) Set.univ (k0_part30 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c) Kt := by
  simp only [k0_part30_eq_skeleton]; unfold k0_part30_skel
  simp only [semSignalWord, semWaitWord, Prog.lift, Prog.bind_op, Prog.bind_ret, Prog.pure_eq_ret, wp_deviceId]
  unfold vSrcP vDstP qAt
  iintro ⟨#HC, HO, Hvs, Hvd, Htv, Hx, Hq, Hc1, Ha1, Ha2, Hk⟩
  ihave #HR := (cx_rec m K) $$ HC
  ihave #HL := (cx_lev m K) $$ HC
  iapply (wp_vcopy m K (by rfl)) $$ [Hvs Hvd Htv]
  · isplitr; · iexact HR
    isplitl [Hvs]; · iexact Hvs
    isplitl [Hvd] <;> iassumption
  iintro Hc2
  iapply wp_xIn $$ Hx; iintro Hx
  iapply wp_wqIn $$ Hq; iintro Hq
  iapply (wp_land m K 1 (by decide) (by rfl) (by rfl) (above (l9 c) (by show ∀ k ∈ ([9, 10, 11, 12, 13, 14] : List (Fin 15)), 0 < lvl k; decide))) $$ [Hc1 HO Ha1]
  · isplitr; · iexact HR
    isplitr; · iexact HL
    isplitl [Hc1]; · iexact Hc1
    isplitl [HO] <;> iassumption
  iintro ⟨HO, Ha1, Hp⟩
  ihave Hp := (show pay m c 1 0 ⊢ iprop(kGot m c ∗ kSrcP m c) from kPay_eq m c) $$ Hp
  icases Hp with ⟨Hkd, Hks⟩
  iapply (wp_land m K 2 (by decide) (by rfl) (by rfl) (above (l9 c) (by show ∀ k ∈ ([9, 10, 11, 12, 13, 14] : List (Fin 15)), 0 < lvl k; decide))) $$ [Hc2 HO Ha2]
  · isplitr; · iexact HR
    isplitr; · iexact HL
    isplitl [Hc2]; · iexact Hc2
    isplitl [HO] <;> iassumption
  iintro ⟨HO, Ha2, Hp⟩
  ihave Hp := (show pay m c 2 0 ⊢ iprop(vGot m c ∗ vSrcP m c) from vPay_eq m c) $$ Hp
  icases Hp with ⟨Hvd, Hvs⟩
  iapply (wp_kload m) $$ Hkd
  iintro Hkd
  rw [wp_ret]; imodintro
  iapply Hk
  isplitl [HO]; · iexact HO
  isplitl [Hx]; · iexact Hx
  isplitl [Hq]; · iexact Hq
  isplitl [Hkd]; · iexact Hkd
  isplitl [Hks]; · iexact Hks
  isplitl [Hvd]; · iexact Hvd
  isplitl [Hvs]; · unfold vSrcP; iexact Hvs
  isplitl [Ha1] <;> iassumption

/-! ## The loads of the values and of the output projection -/

/-- The device's bit x, as the kernel computes it from its place. -/
def xbit (v2 : BitVec 32) : BitVec 32 :=
  let v59 : BitVec 32 := Scalar.select (Scalar.cmpi .eq 4#32 0#32) 1#32 4#32
  let v60 : BitVec 32 := Scalar.remsi v2 v59
  let v67 : BitVec 32 := Scalar.select (Scalar.andi (Scalar.xori (Scalar.cmpi .slt v60 0#32) (Scalar.cmpi .slt v59 0#32)) (Scalar.cmpi .ne v60 0#32)) (Scalar.addi v60 v59) v60
  Scalar.andi (Scalar.xori v67 (Scalar.shrsi v67 1#32)) 1#32

theorem xbit_eq (c : Dev nD) : xbit (place c) = BitVec.ofNat 32 (bx c) := by revert c; decide +kernel

set_option maxHeartbeats 1000000 in
theorem run31 (c : Dev nD) (v2 : BitVec 32) (k : FVec F S1024x8x128 .f32)
    (Kt : (Σ' (v51 : FVec F S1024x8x128 .bf16) (v54 : FVec F S1024x8x128 .bf16) (v57 : FVec F S1024x1024 .bf16) (v70 : BitVec 32) (v71 : BitVec 32), BitVec 32) → sProp 𝕄) :
    iprop(vGot m c ∗ inP c cc0_stg2_0 (woStg m c)
        ∗ (∀ a b, (vGot m c ∗ inP c cc0_stg2_0 (woStg m c)) -∗ Kt ⟨k0_pay84 k, vAt m c, woAt m c, xbit v2, a, b⟩))
      ⊢ wp frame (wpE (defs₀ (F := F)) 𝒱₀ (c : Thread nD τ) none) Set.univ (k0_part31 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v2 k) Kt := by
  simp only [k0_part31_eq_skeleton]; unfold k0_part31_skel
  simp only [semSignalWord, semWaitWord, Prog.lift, Prog.bind_op, Prog.bind_ret, Prog.pure_eq_ret, wp_deviceId]
  dsimp only [xbit, vAt, woAt]
  iintro ⟨Hv, Ho, Hk⟩
  iapply (wp_vload m) $$ Hv
  iintro Hv
  iapply wp_woIn $$ Ho; iintro Ho
  rw [wp_ret]; imodintro
  iapply Hk
  isplitl [Hv] <;> iassumption

end Cert.Halving

end
-- ==== Proof.Body2.lean ====
/-
The attention part at a device: its half of the partial sum that it gives away first, the first send,
then the half that it keeps.
-/
module

public import proofs.«01_k».proof.Proof.Body1

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (K : Dev nD × Fin 15 → ℕ)

omit [FloatOps F] [Named F] in
theorem rows_256 {c : Dev nD} {a : ℕ} {f : CB F} : cbP c a 512 f ⊢ iprop(cbP c a 256 f ∗ cbP c (a + 256) 256 f) :=
  cb_split (n := 256) (k := 256) (Or.inl le_rfl) (Or.inl ⟨rfl, rfl⟩)
omit [FloatOps F] [Named F] in
theorem rows_512 {c : Dev nD} {a : ℕ} {f : CB F} : iprop(cbP c a 256 f ∗ cbP c (a + 256) 256 f) ⊢ cbP c a 512 f :=
  cb_join (n := 256) (k := 256) (Or.inl le_rfl) (Or.inl ⟨rfl, rfl⟩)

theorem run_zero (c : Dev nD) : run m ((0 : Fin 3) : ℕ) c = part m c := by
  show run m 0 c = _
  rw [run]

set_option maxHeartbeats 4000000 in
/-- The attention on a device whose bit x is 0. -/
theorem run32_0 (c : Dev nD) (hb : bx c = 0) (v4 v71 v88 : BitVec 32) {f : CB F} (Kt : (Σ' (v89 : BitVec 32) (v91 : BitVec 32), BitVec 32) → sProp 𝕄) :
    iprop(cx m K ∗ owing c (l9 c) ∗ cbP c 0 1024 f ∗ barPay c 0 ∗ dutyTok ER (kcell (c, 3)) 0 0 ∗ dutyTok ER (kcell (pal 0 c, 9)) 0 0
        ∗ (∀ a b d, (owing c (l10 c) ∗ cbP c (keep 0 c) 512 (part m c) ∗ cred (tallyAt (kcell (c, 3)) () (amt 3))) -∗ Kt ⟨a, b, d⟩))
      ⊢ wp frame (wpE (defs₀ (F := F)) 𝒱₀ (c : Thread nD τ) none) Set.univ (k0_part32 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v4 (qAt m c) (kAt m c) (vAt m c) (woAt m c) 0#32 v71 v88) Kt := by
  have e1 : Scalar.cmpi .ne (Scalar.extui (Scalar.cmpi .eq 0#32 0#32) : BitVec 32) 0#32 = 1#1 := by decide
  have e2 : ¬ Scalar.cmpi .ne (Scalar.extui (Scalar.cmpi .eq 0#32 1#32) : BitVec 32) 0#32 = 1#1 := by decide
  have hg : give 0 c = 512 := by show 512 * (1 - bx c) = _; rw [hb]
  have hk : keep 0 c = 0 := by show 512 * bx c = _; rw [hb]
  simp only [k0_part32_eq_skeleton]; unfold k0_part32_skel
  simp only [dif_pos e1, dif_neg e2, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, Prog.lift, Prog.bind_op, Prog.bind_ret, Prog.pure_eq_ret]
  iintro ⟨#HC, HO, Hcb, Hbar, HtS, HtR, Hk⟩
  ihave #HR := (cx_rec m K) $$ HC
  ihave Hcb := (cb_split (c := c) (a := 512) (n := 512) (b := 0) (k := 512) (d := 0) (f := f) (by decide) (by decide)) $$ Hcb
  icases Hcb with ⟨Hh, Hkeep⟩
  ihave Hh := (rows_256 (a := 512)) $$ Hh
  icases Hh with ⟨Ha, Hb⟩
  iapply (wp_cb_load (a := 512) (n := 256) rfl (by decide) ⟨le_rfl, le_rfl⟩) $$ Ha
  iintro Ha
  iapply (wp_cb_store (a := 512) (n := 256) rfl (by decide) (part m c)
    (fun j => (congrFun (first_2 (qAt m c) (kAt m c) (vAt m c) (woAt m c)) j).trans (part_row m c 2 (by decide) j).symm)) $$ Ha
  iintro Ha
  iapply (wp_cb_load (a := 768) (n := 256) rfl (by decide) ⟨le_rfl, le_rfl⟩) $$ Hb
  iintro Hb
  iapply (wp_cb_store (a := 768) (n := 256) rfl (by decide) (part m c)
    (fun j => (congrFun (second_2 (qAt m c) (kAt m c) (vAt m c) (woAt m c)) j).trans (part_row m c 3 (by decide) j).symm)) $$ Hb
  iintro Hb
  ihave Hh := (rows_512 (c := c) (a := 512) (f := part m c)) $$ [Ha Hb]
  · isplitl [Ha] <;> iassumption
  unfold barPay
  icases Hbar with ⟨%fr, Hrv⟩
  iapply (wp_halve m K 0 rfl (dev4_eq c) (off2_eq c) rfl rfl rfl) $$ [Hh Hrv HO HtS HtR]
  · isplitr; · iexact HR
    isplitl [Hh]; · iapply (Entails.of_eq (show cbP c 512 512 (part m c) = cbP c (give 0 c) 512 (run m ((0 : Fin 3) : ℕ) c) from by rw [hg, run_zero])); iexact Hh
    isplitl [Hrv]; · iexact Hrv
    isplitl [HO]; · iexact HO
    isplitl [HtS]; · iexact HtS
    iexact HtR
  iintro ⟨Hc, HO⟩
  irename Hkeep => Hh
  ihave Hh := (rows_256 (a := 0)) $$ Hh
  icases Hh with ⟨Ha, Hb⟩
  iapply (wp_cb_load (a := 0) (n := 256) rfl (by decide) ⟨le_rfl, le_rfl⟩) $$ Ha
  iintro Ha
  iapply (wp_cb_store (a := 0) (n := 256) rfl (by decide) (part m c)
    (fun j => (congrFun (first_42 (qAt m c) (kAt m c) (vAt m c) (woAt m c)) j).trans (part_row m c 0 (by decide) j).symm)) $$ Ha
  iintro Ha
  iapply (wp_cb_load (a := 256) (n := 256) rfl (by decide) ⟨le_rfl, le_rfl⟩) $$ Hb
  iintro Hb
  iapply (wp_cb_store (a := 256) (n := 256) rfl (by decide) (part m c)
    (fun j => (congrFun (second_42 (qAt m c) (kAt m c) (vAt m c) (woAt m c)) j).trans (part_row m c 1 (by decide) j).symm)) $$ Hb
  iintro Hb
  ihave Hh := (rows_512 (c := c) (a := 0) (f := part m c)) $$ [Ha Hb]
  · isplitl [Ha] <;> iassumption
  rw [wp_ret]; imodintro
  iapply Hk
  isplitl [HO]; · iexact HO
  isplitl [Hh]; · rw [hk]; iexact Hh
  iexact Hc

set_option maxHeartbeats 4000000 in
/-- The attention on a device whose bit x is 1. -/
theorem run32_1 (c : Dev nD) (hb : bx c = 1) (v4 v71 v88 : BitVec 32) {f : CB F} (Kt : (Σ' (v89 : BitVec 32) (v91 : BitVec 32), BitVec 32) → sProp 𝕄) :
    iprop(cx m K ∗ owing c (l9 c) ∗ cbP c 0 1024 f ∗ barPay c 0 ∗ dutyTok ER (kcell (c, 3)) 0 0 ∗ dutyTok ER (kcell (pal 0 c, 9)) 0 0
        ∗ (∀ a b d, (owing c (l10 c) ∗ cbP c (keep 0 c) 512 (part m c) ∗ cred (tallyAt (kcell (c, 3)) () (amt 3))) -∗ Kt ⟨a, b, d⟩))
      ⊢ wp frame (wpE (defs₀ (F := F)) 𝒱₀ (c : Thread nD τ) none) Set.univ (k0_part32 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v4 (qAt m c) (kAt m c) (vAt m c) (woAt m c) 1#32 v71 v88) Kt := by
  have e1 : Scalar.cmpi .ne (Scalar.extui (Scalar.cmpi .eq 1#32 1#32) : BitVec 32) 0#32 = 1#1 := by decide
  have e2 : ¬ Scalar.cmpi .ne (Scalar.extui (Scalar.cmpi .eq 1#32 0#32) : BitVec 32) 0#32 = 1#1 := by decide
  have hg : give 0 c = 0 := by show 512 * (1 - bx c) = _; rw [hb]
  have hk : keep 0 c = 512 := by show 512 * bx c = _; rw [hb]
  simp only [k0_part32_eq_skeleton]; unfold k0_part32_skel
  simp only [dif_pos e1, dif_neg e2, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, Prog.lift, Prog.bind_op, Prog.bind_ret, Prog.pure_eq_ret]
  iintro ⟨#HC, HO, Hcb, Hbar, HtS, HtR, Hk⟩
  ihave #HR := (cx_rec m K) $$ HC
  ihave Hcb := (cb_split (c := c) (a := 0) (n := 512) (b := 512) (k := 512) (d := 0) (f := f) (by decide) (by decide)) $$ Hcb
  icases Hcb with ⟨Hh, Hkeep⟩
  ihave Hh := (rows_256 (a := 0)) $$ Hh
  icases Hh with ⟨Ha, Hb⟩
  iapply (wp_cb_load (a := 0) (n := 256) rfl (by decide) ⟨le_rfl, le_rfl⟩) $$ Ha
  iintro Ha
  iapply (wp_cb_store (a := 0) (n := 256) rfl (by decide) (part m c)
    (fun j => (congrFun (first_22 (qAt m c) (kAt m c) (vAt m c) (woAt m c)) j).trans (part_row m c 0 (by decide) j).symm)) $$ Ha
  iintro Ha
  iapply (wp_cb_load (a := 256) (n := 256) rfl (by decide) ⟨le_rfl, le_rfl⟩) $$ Hb
  iintro Hb
  iapply (wp_cb_store (a := 256) (n := 256) rfl (by decide) (part m c)
    (fun j => (congrFun (second_22 (qAt m c) (kAt m c) (vAt m c) (woAt m c)) j).trans (part_row m c 1 (by decide) j).symm)) $$ Hb
  iintro Hb
  ihave Hh := (rows_512 (c := c) (a := 0) (f := part m c)) $$ [Ha Hb]
  · isplitl [Ha] <;> iassumption
  unfold barPay
  icases Hbar with ⟨%fr, Hrv⟩
  iapply (wp_halve m K 0 rfl (dev4_eq c) (off2_eq c) rfl rfl rfl) $$ [Hh Hrv HO HtS HtR]
  · isplitr; · iexact HR
    isplitl [Hh]; · iapply (Entails.of_eq (show cbP c 0 512 (part m c) = cbP c (give 0 c) 512 (run m ((0 : Fin 3) : ℕ) c) from by rw [hg, run_zero])); iexact Hh
    isplitl [Hrv]; · iexact Hrv
    isplitl [HO]; · iexact HO
    isplitl [HtS]; · iexact HtS
    iexact HtR
  iintro ⟨Hc, HO⟩
  irename Hkeep => Hh
  ihave Hh := (rows_256 (a := 512)) $$ Hh
  icases Hh with ⟨Ha, Hb⟩
  iapply (wp_cb_load (a := 512) (n := 256) rfl (by decide) ⟨le_rfl, le_rfl⟩) $$ Ha
  iintro Ha
  iapply (wp_cb_store (a := 512) (n := 256) rfl (by decide) (part m c)
    (fun j => (congrFun (first_62 (qAt m c) (kAt m c) (vAt m c) (woAt m c)) j).trans (part_row m c 2 (by decide) j).symm)) $$ Ha
  iintro Ha
  iapply (wp_cb_load (a := 768) (n := 256) rfl (by decide) ⟨le_rfl, le_rfl⟩) $$ Hb
  iintro Hb
  iapply (wp_cb_store (a := 768) (n := 256) rfl (by decide) (part m c)
    (fun j => (congrFun (second_62 (qAt m c) (kAt m c) (vAt m c) (woAt m c)) j).trans (part_row m c 3 (by decide) j).symm)) $$ Hb
  iintro Hb
  ihave Hh := (rows_512 (c := c) (a := 512) (f := part m c)) $$ [Ha Hb]
  · isplitl [Ha] <;> iassumption
  rw [wp_ret]; imodintro
  iapply Hk
  isplitl [HO]; · iexact HO
  isplitl [Hh]; · rw [hk]; iexact Hh
  iexact Hc

end Cert.Halving

end
-- ==== Proof.Body3.lean ====
/-
The three rounds of the halving sum and the three rounds of the gathering.
-/
module

public import proofs.«01_k».proof.Proof.Body2

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (K : Dev nD × Fin 15 → ℕ)

omit [FloatOps F] [Named F] in
theorem split1 {c : Dev nD} {f : CB F} : cbP c (keep 0 c) 512 f ⊢ iprop(cbP c (give 1 c) 256 f ∗ cbP c (keep 1 c) 256 f) :=
  cb_split (n := 256) (k := 256) (by revert c; decide) (by revert c; decide)

omit [FloatOps F] [Named F] in
theorem split2 {c : Dev nD} {f : CB F} : cbP c (keep 1 c) 256 f ⊢ iprop(cbP c (give 2 c) 128 f ∗ cbP c (keep 2 c) 128 f) :=
  cb_split (n := 128) (k := 128) (by revert c; decide) (by revert c; decide)

omit [FloatOps F] [Named F] in
theorem join0 {c : Dev nD} {f : CB F} : iprop(cbP c (keep 0 c) 512 f ∗ cbP c (give 0 c) 512 f) ⊢ cbP c 0 1024 f :=
  cb_join (n := 512) (k := 512) (by revert c; decide) (by revert c; decide)

omit [FloatOps F] [Named F] in
theorem join1 {c : Dev nD} {f : CB F} : iprop(cbP c (keep 1 c) 256 f ∗ cbP c (give 1 c) 256 f) ⊢ cbP c (keep 0 c) 512 f :=
  cb_join (n := 256) (k := 256) (by revert c; decide) (by revert c; decide)

omit [FloatOps F] [Named F] in
theorem join2 {c : Dev nD} {f : CB F} : iprop(cbP c (keep 2 c) 128 f ∗ cbP c (give 2 c) 128 f) ⊢ cbP c (keep 1 c) 256 f :=
  cb_join (n := 128) (k := 128) (by revert c; decide) (by revert c; decide)

theorem sum0 (c : Dev nD) {h h'} (j : (⟨2, ![512, 1024]⟩ : Shape).Idx) :
    add1 (run m 0 c (rowAt (keep 0 c) h' j)) (landed m 0 c (rowAt 0 h j)) = run m 1 c (rowAt (keep 0 c) h' j) := by
  have e := landed_row m 0 c h h' j
  rw [show landed m 0 c (rowAt 0 h j) = run m 0 (pal 0 c) (rowAt (keep 0 c) h' j) from e]
  conv_rhs => rw [run]

theorem sum1 (c : Dev nD) {h h'} (j : (⟨2, ![256, 1024]⟩ : Shape).Idx) :
    add1 (run m 1 c (rowAt (keep 1 c) h' j)) (landed m 1 c (rowAt 512 h j)) = run m 2 c (rowAt (keep 1 c) h' j) := by
  have e := landed_row m 1 c h h' j
  rw [show landed m 1 c (rowAt 512 h j) = run m 1 (pal 1 c) (rowAt (keep 1 c) h' j) from e]
  conv_rhs => rw [run]

theorem sum2 (c : Dev nD) {h h'} (j : (⟨2, ![128, 1024]⟩ : Shape).Idx) :
    add1 (run m 2 c (rowAt (keep 2 c) h' j)) (landed m 2 c (rowAt 768 h j)) = run m 3 c (rowAt (keep 2 c) h' j) := by
  have e := landed_row m 2 c h h' j
  rw [show landed m 2 c (rowAt 768 h j) = run m 2 (pal 2 c) (rowAt (keep 2 c) h' j) from e]
  conv_rhs => rw [run]

theorem done2 (c : Dev nD) : cbP c (keep 2 c) 128 (run m 3 c) = cbP c (keep 2 c) 128 (fin m) :=
  cb_congr (keep_len 2 c) fun j => (fin_keep m c _ j).symm

set_option maxHeartbeats 4000000 in
theorem run33 (c : Dev nD) (v4 v5 v71 v88 v89 v91 : BitVec 32) (Kt : PUnit → sProp 𝕄) :
    iprop(cx m K ∗ owing c (l10 c) ∗ cred (tallyAt (kcell (c, 3)) () (amt 3)) ∗ atPos ER (kcell (c, 3)) 0 ∅ 0 ∗ cred (tallyAt (kcell (c, 9)) () (amt 9)) ∗ atPos ER (kcell (c, 9)) 0 ∅ 0 ∗ cbP c (keep 0 c) 512 (run m 0 c) ∗ barPay c 1
        ∗ dutyTok ER (kcell (c, 4)) 0 0 ∗ dutyTok ER (kcell (pal 1 c, 10)) 0 0
        ∗ ((owing c (l11 c) ∗ atPos ER (kcell (c, 3)) 1 ∅ 0 ∗ atPos ER (kcell (c, 9)) 1 ∅ 0 ∗ rvP c 0 512 (landed m 0 c) ∗ (∃ g, cbP (pal 0 c) (keep 0 c) 512 g)
            ∗ cred (tallyAt (kcell (c, 4)) () (amt 4)) ∗ cbP c (keep 1 c) 256 (run m 1 c)) -∗ Kt ⟨⟩))
      ⊢ wp frame (wpE (defs₀ (F := F)) 𝒱₀ (c : Thread nD τ) none) Set.univ (k0_part33 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v4 v5 v71 v88 v89 v91) Kt := by
  simp only [k0_part33_eq_skeleton]; unfold k0_part33_skel
  simp only [semSignalWord, semWaitWord, Prog.lift, Prog.bind_op, Prog.bind_ret, Prog.pure_eq_ret, wp_deviceId]
  iintro ⟨#HC, HO, Hc3, Ha3, Hc9, Ha9, Hcb, Hbar, HtS, HtR, Hk⟩
  ihave #HR := (cx_rec m K) $$ HC
  ihave #HL := (cx_lev m K) $$ HC
  iapply (wp_land m K 3 (by decide) (by rfl) (by rfl) (above (l10 c) (by show ∀ k ∈ ([10, 11, 12, 13, 14] : List (Fin 15)), 0 < lvl k; decide))) $$ [Hc3 HO Ha3]
  · isplitr; · iexact HR
    isplitr; · iexact HL
    isplitl [Hc3]; · iexact Hc3
    isplitl [HO] <;> iassumption
  iintro ⟨HO, Ha3, Hp⟩
  iclear Hp
  iapply (wp_land m K 9 (by decide) (by rfl) (by rfl) (above (l10 c) (by show ∀ k ∈ ([10, 11, 12, 13, 14] : List (Fin 15)), 2 < lvl k; decide))) $$ [Hc9 HO Ha9]
  · isplitr; · iexact HR
    isplitr; · iexact HL
    isplitl [Hc9]; · iexact Hc9
    isplitl [HO] <;> iassumption
  iintro ⟨HO, Ha9, Hp⟩
  ihave Hp := (show pay m c 9 0 ⊢ iprop(rvP c 0 512 (landed m 0 c) ∗ ∃ g, cbP (pal 0 c) (keep 0 c) 512 g) from Entails.of_eq (pay_hRcv m 0 c 0)) $$ Hp
  icases Hp with ⟨Hrv, Hg⟩
  iapply (wp_cb_load (n := 512) (off3_eq c) (keep_len 0 c) ⟨le_rfl, le_rfl⟩) $$ Hcb
  iintro Hcb
  iapply (wp_rv_load (a := 0) (n := 512) rfl (by decide)) $$ Hrv
  iintro Hrv
  iapply (wp_cb_load (n := 512) (off3_eq c) (keep_len 0 c) ⟨le_rfl, le_rfl⟩) $$ Hcb
  iintro Hcb
  iapply (wp_cb_store (n := 512) (off3_eq c) (keep_len 0 c) (run m 1 c)
    (fun j => (congrFun (add512 _ _) j).trans (sum0 m c j))) $$ Hcb
  iintro Hcb
  ihave Hcb := (split1 (f := run m 1 c)) $$ Hcb
  icases Hcb with ⟨Hh, Hcb⟩
  unfold barPay
  icases Hbar with ⟨%fr, Hb⟩
  iapply (wp_halve m K 1 rfl (dev5_eq c) (off4_eq c) rfl (by rfl) (by rfl)) $$ [Hh Hb HO HtS HtR]
  · isplitr; · iexact HR
    isplitl [Hh]; · iexact Hh
    isplitl [Hb]; · iexact Hb
    isplitl [HO]; · iexact HO
    isplitl [HtS]; · iexact HtS
    iexact HtR
  iintro ⟨Hc, HO⟩
  rw [wp_ret]; imodintro
  iapply Hk
  isplitl [HO]; · iexact HO
  isplitl [Ha3]; · iexact Ha3
  isplitl [Ha9]; · iexact Ha9
  isplitl [Hrv]; · iexact Hrv
  isplitl [Hg]; · iexact Hg
  isplitl [Hc]; · iexact Hc
  iexact Hcb

set_option maxHeartbeats 4000000 in
theorem run34 (c : Dev nD) (v5 v6 v91 : BitVec 32) (Kt : PUnit → sProp 𝕄) :
    iprop(cx m K ∗ owing c (l11 c) ∗ cred (tallyAt (kcell (c, 4)) () (amt 4)) ∗ atPos ER (kcell (c, 4)) 0 ∅ 0 ∗ cred (tallyAt (kcell (c, 10)) () (amt 10)) ∗ atPos ER (kcell (c, 10)) 0 ∅ 0 ∗ cbP c (keep 1 c) 256 (run m 1 c) ∗ barPay c 2
        ∗ dutyTok ER (kcell (c, 5)) 0 0 ∗ dutyTok ER (kcell (pal 2 c, 11)) 0 0
        ∗ ((owing c (l12 c) ∗ atPos ER (kcell (c, 4)) 1 ∅ 0 ∗ atPos ER (kcell (c, 10)) 1 ∅ 0 ∗ rvP c 512 256 (landed m 1 c) ∗ (∃ g, cbP (pal 1 c) (keep 1 c) 256 g)
            ∗ cred (tallyAt (kcell (c, 5)) () (amt 5)) ∗ cbP c (keep 2 c) 128 (run m 2 c)) -∗ Kt ⟨⟩))
      ⊢ wp frame (wpE (defs₀ (F := F)) 𝒱₀ (c : Thread nD τ) none) Set.univ (k0_part34 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v5 v6 v91) Kt := by
  simp only [k0_part34_eq_skeleton]; unfold k0_part34_skel
  simp only [semSignalWord, semWaitWord, Prog.lift, Prog.bind_op, Prog.bind_ret, Prog.pure_eq_ret, wp_deviceId]
  iintro ⟨#HC, HO, Hc4, Ha4, Hc10, Ha10, Hcb, Hbar, HtS, HtR, Hk⟩
  ihave #HR := (cx_rec m K) $$ HC
  ihave #HL := (cx_lev m K) $$ HC
  iapply (wp_land m K 4 (by decide) (by rfl) (by rfl) (above (l11 c) (by show ∀ k ∈ ([11, 12, 13, 14] : List (Fin 15)), 0 < lvl k; decide))) $$ [Hc4 HO Ha4]
  · isplitr; · iexact HR
    isplitr; · iexact HL
    isplitl [Hc4]; · iexact Hc4
    isplitl [HO] <;> iassumption
  iintro ⟨HO, Ha4, Hp⟩
  iclear Hp
  iapply (wp_land m K 10 (by decide) (by rfl) (by rfl) (above (l11 c) (by show ∀ k ∈ ([11, 12, 13, 14] : List (Fin 15)), 3 < lvl k; decide))) $$ [Hc10 HO Ha10]
  · isplitr; · iexact HR
    isplitr; · iexact HL
    isplitl [Hc10]; · iexact Hc10
    isplitl [HO] <;> iassumption
  iintro ⟨HO, Ha10, Hp⟩
  ihave Hp := (show pay m c 10 0 ⊢ iprop(rvP c 512 256 (landed m 1 c) ∗ ∃ g, cbP (pal 1 c) (keep 1 c) 256 g) from Entails.of_eq (pay_hRcv m 1 c 0)) $$ Hp
  icases Hp with ⟨Hrv, Hg⟩
  iapply (wp_cb_load (n := 256) (off5_eq c) (keep_len 1 c) ⟨le_rfl, le_rfl⟩) $$ Hcb
  iintro Hcb
  iapply (wp_rv_load (a := 512) (n := 256) rfl (by decide)) $$ Hrv
  iintro Hrv
  iapply (wp_cb_load (n := 256) (off5_eq c) (keep_len 1 c) ⟨le_rfl, le_rfl⟩) $$ Hcb
  iintro Hcb
  iapply (wp_cb_store (n := 256) (off5_eq c) (keep_len 1 c) (run m 2 c)
    (fun j => (congrFun (add256 _ _) j).trans (sum1 m c j))) $$ Hcb
  iintro Hcb
  ihave Hcb := (split2 (f := run m 2 c)) $$ Hcb
  icases Hcb with ⟨Hh, Hcb⟩
  unfold barPay
  icases Hbar with ⟨%fr, Hb⟩
  iapply (wp_halve m K 2 rfl (dev6_eq c) (off6_eq c) rfl (by rfl) (by rfl)) $$ [Hh Hb HO HtS HtR]
  · isplitr; · iexact HR
    isplitl [Hh]; · iexact Hh
    isplitl [Hb]; · iexact Hb
    isplitl [HO]; · iexact HO
    isplitl [HtS]; · iexact HtS
    iexact HtR
  iintro ⟨Hc, HO⟩
  rw [wp_ret]; imodintro
  iapply Hk
  isplitl [HO]; · iexact HO
  isplitl [Ha4]; · iexact Ha4
  isplitl [Ha10]; · iexact Ha10
  isplitl [Hrv]; · iexact Hrv
  isplitl [Hg]; · iexact Hg
  isplitl [Hc]; · iexact Hc
  iexact Hcb

set_option maxHeartbeats 4000000 in
theorem run35 (c : Dev nD) (v6 v93 : BitVec 32) (Kt : PUnit → sProp 𝕄) :
    iprop(cx m K ∗ owing c (l12 c) ∗ cred (tallyAt (kcell (c, 5)) () (amt 5)) ∗ atPos ER (kcell (c, 5)) 0 ∅ 0 ∗ cred (tallyAt (kcell (c, 11)) () (amt 11)) ∗ atPos ER (kcell (c, 11)) 0 ∅ 0 ∗ cbP c (keep 2 c) 128 (run m 2 c)
        ∗ dutyTok ER (kcell (c, 6)) 0 0 ∗ dutyTok ER (kcell (pal 2 c, 12)) 0 0
        ∗ ((owing c (l13 c) ∗ atPos ER (kcell (c, 5)) 1 ∅ 0 ∗ atPos ER (kcell (c, 11)) 1 ∅ 0 ∗ rvP c 768 128 (landed m 2 c) ∗ cred (tallyAt (kcell (c, 6)) () (amt 6))) -∗ Kt ⟨⟩))
      ⊢ wp frame (wpE (defs₀ (F := F)) 𝒱₀ (c : Thread nD τ) none) Set.univ (k0_part35 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v6 v93) Kt := by
  simp only [k0_part35_eq_skeleton]; unfold k0_part35_skel
  simp only [semSignalWord, semWaitWord, Prog.lift, Prog.bind_op, Prog.bind_ret, Prog.pure_eq_ret, wp_deviceId]
  iintro ⟨#HC, HO, Hc5, Ha5, Hc11, Ha11, Hcb, HtS, HtR, Hk⟩
  ihave #HR := (cx_rec m K) $$ HC
  ihave #HL := (cx_lev m K) $$ HC
  iapply (wp_land m K 5 (by decide) (by rfl) (by rfl) (above (l12 c) (by show ∀ k ∈ ([12, 13, 14] : List (Fin 15)), 0 < lvl k; decide))) $$ [Hc5 HO Ha5]
  · isplitr; · iexact HR
    isplitr; · iexact HL
    isplitl [Hc5]; · iexact Hc5
    isplitl [HO] <;> iassumption
  iintro ⟨HO, Ha5, Hp⟩
  iclear Hp
  iapply (wp_land m K 11 (by decide) (by rfl) (by rfl) (above (l12 c) (by show ∀ k ∈ ([12, 13, 14] : List (Fin 15)), 4 < lvl k; decide))) $$ [Hc11 HO Ha11]
  · isplitr; · iexact HR
    isplitr; · iexact HL
    isplitl [Hc11]; · iexact Hc11
    isplitl [HO] <;> iassumption
  iintro ⟨HO, Ha11, Hp⟩
  ihave Hp := (show pay m c 11 0 ⊢ iprop(rvP c 768 128 (landed m 2 c) ∗ ∃ g, cbP (pal 2 c) (keep 2 c) 128 g) from Entails.of_eq (pay_hRcv m 2 c 0)) $$ Hp
  icases Hp with ⟨Hrv, Hg⟩
  iapply (wp_cb_load (n := 128) (off7_eq c) (keep_len 2 c) ⟨le_rfl, le_rfl⟩) $$ Hcb
  iintro Hcb
  iapply (wp_rv_load (a := 768) (n := 128) rfl (by decide)) $$ Hrv
  iintro Hrv
  iapply (wp_cb_load (n := 128) (off7_eq c) (keep_len 2 c) ⟨le_rfl, le_rfl⟩) $$ Hcb
  iintro Hcb
  iapply (wp_cb_store (n := 128) (off7_eq c) (keep_len 2 c) (run m 3 c)
    (fun j => (congrFun (add128 _ _) j).trans (sum2 m c j))) $$ Hcb
  iintro Hcb
  ihave Hcb := (Entails.of_eq (done2 m c)) $$ Hcb
  icases Hg with ⟨%g, Hg⟩
  iapply (wp_gather m K 2 rfl (dev7_eq c) (off8_eq c) (by rfl) (by rfl)) $$ [Hcb Hg HO HtS HtR]
  · isplitr; · iexact HR
    isplitl [Hcb]; · iexact Hcb
    isplitl [Hg]; · iexact Hg
    isplitl [HO]; · iexact HO
    isplitl [HtS]; · iexact HtS
    iexact HtR
  iintro ⟨Hc, HO⟩
  rw [wp_ret]; imodintro
  iapply Hk
  isplitl [HO]; · iexact HO
  isplitl [Ha5]; · iexact Ha5
  isplitl [Ha11]; · iexact Ha11
  isplitl [Hrv]; · iexact Hrv
  iexact Hc

set_option maxHeartbeats 4000000 in
theorem run36 (c : Dev nD) (v4 v5 v6 : BitVec 32) (Kt : PUnit → sProp 𝕄) :
    iprop(cx m K ∗ owing c (l13 c) ∗ cred (tallyAt (kcell (c, 6)) () (amt 6)) ∗ atPos ER (kcell (c, 6)) 0 ∅ 0 ∗ cred (tallyAt (kcell (c, 12)) () (amt 12)) ∗ atPos ER (kcell (c, 12)) 0 ∅ 0 ∗ (∃ g, cbP (pal 1 c) (keep 1 c) 256 g)
        ∗ dutyTok ER (kcell (c, 7)) 0 0 ∗ dutyTok ER (kcell (pal 1 c, 13)) 0 0 ∗ atPos ER (kcell (c, 7)) 0 ∅ 0 ∗ cred (tallyAt (kcell (c, 13)) () (amt 13)) ∗ atPos ER (kcell (c, 13)) 0 ∅ 0
        ∗ ((owing c (l14 c) ∗ atPos ER (kcell (c, 6)) 1 ∅ 0 ∗ atPos ER (kcell (c, 12)) 1 ∅ 0 ∗ atPos ER (kcell (c, 7)) 1 ∅ 0 ∗ atPos ER (kcell (c, 13)) 1 ∅ 0 ∗ cbP c (keep 0 c) 512 (fin m)) -∗ Kt ⟨⟩))
      ⊢ wp frame (wpE (defs₀ (F := F)) 𝒱₀ (c : Thread nD τ) none) Set.univ (k0_part36 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v4 v5 v6) Kt := by
  simp only [k0_part36_eq_skeleton]; unfold k0_part36_skel
  simp only [semSignalWord, semWaitWord, Prog.lift, Prog.bind_op, Prog.bind_ret, Prog.pure_eq_ret, wp_deviceId]
  iintro ⟨#HC, HO, Hc6, Ha6, Hc12, Ha12, Hg, HtS, HtR, Ha7, Hc13, Ha13, Hk⟩
  ihave #HR := (cx_rec m K) $$ HC
  ihave #HL := (cx_lev m K) $$ HC
  iapply (wp_land m K 6 (by decide) (by rfl) (by rfl) (above (l13 c) (by show ∀ k ∈ ([13, 14] : List (Fin 15)), 0 < lvl k; decide))) $$ [Hc6 HO Ha6]
  · isplitr; · iexact HR
    isplitr; · iexact HL
    isplitl [Hc6]; · iexact Hc6
    isplitl [HO] <;> iassumption
  iintro ⟨HO, Ha6, Hp⟩
  ihave Hp := (show pay m c 6 0 ⊢ cbP c (keep 2 c) 128 (fin m) from Entails.of_eq (pay_gSnd m 2 c 0)) $$ Hp
  irename Hp => Hq
  iapply (wp_land m K 12 (by decide) (by rfl) (by rfl) (above (l13 c) (by show ∀ k ∈ ([13, 14] : List (Fin 15)), 5 < lvl k; decide))) $$ [Hc12 HO Ha12]
  · isplitr; · iexact HR
    isplitr; · iexact HL
    isplitl [Hc12]; · iexact Hc12
    isplitl [HO] <;> iassumption
  iintro ⟨HO, Ha12, Hp⟩
  ihave Hp := (show pay m c 12 0 ⊢ cbP c (give 2 c) 128 (fin m) from Entails.of_eq (pay_gRcv m 2 c 0)) $$ Hp
  ihave Hcb := (join2 (c := c) (f := fin m)) $$ [Hq Hp]
  · isplitl [Hq]; · iexact Hq
    iexact Hp
  icases Hg with ⟨%g, Hg⟩
  iapply (wp_gather m K 1 rfl (dev8_eq c) (off9_eq c) (by rfl) (by rfl)) $$ [Hcb Hg HO HtS HtR]
  · isplitr; · iexact HR
    isplitl [Hcb]; · iexact Hcb
    isplitl [Hg]; · iexact Hg
    isplitl [HO]; · iexact HO
    isplitl [HtS]; · iexact HtS
    iexact HtR
  iintro ⟨Hc7, HO⟩
  iapply (wp_land m K 7 (by decide) (by rfl) (by rfl) (above (l14 c) (by show ∀ k ∈ ([14] : List (Fin 15)), 0 < lvl k; decide))) $$ [Hc7 HO Ha7]
  · isplitr; · iexact HR
    isplitr; · iexact HL
    isplitl [Hc7]; · iexact Hc7
    isplitl [HO] <;> iassumption
  iintro ⟨HO, Ha7, Hp⟩
  ihave Hp := (show pay m c 7 0 ⊢ cbP c (keep 1 c) 256 (fin m) from Entails.of_eq (pay_gSnd m 1 c 0)) $$ Hp
  irename Hp => Hq
  iapply (wp_land m K 13 (by decide) (by rfl) (by rfl) (above (l14 c) (by show ∀ k ∈ ([14] : List (Fin 15)), 6 < lvl k; decide))) $$ [Hc13 HO Ha13]
  · isplitr; · iexact HR
    isplitr; · iexact HL
    isplitl [Hc13]; · iexact Hc13
    isplitl [HO] <;> iassumption
  iintro ⟨HO, Ha13, Hp⟩
  ihave Hp := (show pay m c 13 0 ⊢ cbP c (give 1 c) 256 (fin m) from Entails.of_eq (pay_gRcv m 1 c 0)) $$ Hp
  ihave Hcb := (join1 (c := c) (f := fin m)) $$ [Hq Hp]
  · isplitl [Hq]; · iexact Hq
    iexact Hp
  rw [wp_ret]; imodintro
  iapply Hk
  isplitl [HO]; · iexact HO
  isplitl [Ha6]; · iexact Ha6
  isplitl [Ha12]; · iexact Ha12
  isplitl [Ha7]; · iexact Ha7
  isplitl [Ha13]; · iexact Ha13
  iexact Hcb

end Cert.Halving

end
-- ==== Proof.Body.lean ====
/-
The whole body at a device, from what it starts with to what it leaves.
-/
module

public import proofs.«01_k».proof.Proof.Body3

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (K : Dev nD × Fin 15 → ℕ)

/-! ## The buffers taken apart and put together -/

theorem heads_apart : kDst.view.set ⊆ Finset.univ ∧ vDst.view.set ⊆ Finset.univ \ kDst.view.set := by
  refine ⟨Finset.subset_univ _, ?_⟩
  have e1 : kDst.view.set = kRect.set := (View.set_reshape (v := kvM.view.slice kRect) squeezes_S1x1024x8x128_S1024x8x128.numel_eq).trans (View.set_slice_whole cc0_scratch0 kRect)
  have e2 : vDst.view.set = vRect.set := (View.set_reshape (v := kvM.view.slice vRect) squeezes_S1x1024x8x128_S1024x8x128.numel_eq).trans (View.set_slice_whole cc0_scratch0 vRect)
  rw [e1, e2]
  intro i hi
  rw [Finset.mem_sdiff]
  refine ⟨Finset.mem_univ _, fun h => ?_⟩
  exact Finset.disjoint_left.mp (Rect.unit_disjoint (s := S2x1024x8x128) (0 : Fin 4) (Or.inl (by decide))) h hi

/-- What the two copies of heads leave of the buffer they land in. -/
def kvRest (c : Dev nD) (f : Buf (Elt F) ((c : Thread nD τ).loc cc0_scratch0)) : sProp 𝕄 :=
  kDst.view.loc (c : Thread nD τ) ↦[(Finset.univ \ kDst.view.set) \ vDst.view.set]{fullShare} f
omit [FloatOps F] [Named F] in
theorem kv_split (c : Dev nD) (f : Buf (Elt F) ((c : Thread nD τ).loc cc0_scratch0)) : inP c cc0_scratch0 f ⊢ iprop(kDstP c f ∗ vDstP c f ∗ kvRest c f) := by
  unfold inP kDstP vDstP kvRest
  exact (pointsTo_split_subset heads_apart.1).1.trans (sep_mono_right (pointsTo_split_subset heads_apart.2).1)
theorem kv_join (c : Dev nD) (f : Buf (Elt F) ((c : Thread nD τ).loc cc0_scratch0)) : iprop(kGot m c ∗ vGot m c ∗ kvRest c f) ⊢ iprop(∃ f, inP c cc0_scratch0 f) := by
  unfold kGot vGot inP kDstP vDstP kvRest
  iintro ⟨⟨%f1, H1⟩, ⟨%f2, H2⟩, H3⟩
  iexists _
  iapply (pointsTo_join_subset heads_apart.1)
  isplitl [H1]; · iexact H1
  iapply (pointsTo_join_subset heads_apart.2)
  isplitl [H2] <;> iassumption

/-- The array without the device's heads. -/
def kRest (c : Dev nD) : sProp 𝕄 := (kSrc c).view.loc (c : Thread nD τ) ↦[Finset.univ \ (kSrc c).view.set]{fullShare} m ((c : Thread nD τ).loc main_arg2)
omit [FloatOps F] [Named F] in
theorem k_split (c : Dev nD) : inP c main_arg2 (m ((c : Thread nD τ).loc main_arg2)) ⊢ iprop(kSrcP m c ∗ kRest m c) := by
  unfold inP kSrcP kRest; exact (pointsTo_split_subset (Finset.subset_univ _)).1
omit [FloatOps F] [Named F] in
theorem k_join (c : Dev nD) : iprop(kSrcP m c ∗ kRest m c) ⊢ inP c main_arg2 (m ((c : Thread nD τ).loc main_arg2)) := by
  unfold inP kSrcP kRest; exact (pointsTo_split_subset (Finset.subset_univ _)).2
/-- The array without the device's heads. -/
def vRest (c : Dev nD) : sProp 𝕄 := (vSrc c).view.loc (c : Thread nD τ) ↦[Finset.univ \ (vSrc c).view.set]{fullShare} m ((c : Thread nD τ).loc main_arg3)
omit [FloatOps F] [Named F] in
theorem v_split (c : Dev nD) : inP c main_arg3 (m ((c : Thread nD τ).loc main_arg3)) ⊢ iprop(vSrcP m c ∗ vRest m c) := by
  unfold inP vSrcP vRest; exact (pointsTo_split_subset (Finset.subset_univ _)).1
omit [FloatOps F] [Named F] in
theorem v_join (c : Dev nD) : iprop(vSrcP m c ∗ vRest m c) ⊢ inP c main_arg3 (m ((c : Thread nD τ).loc main_arg3)) := by
  unfold inP vSrcP vRest; exact (pointsTo_split_subset (Finset.subset_univ _)).2

omit [FloatOps F] [Named F] in
theorem cb_whole (c : Dev nD) (f : CB F) : (inP c cc0_scratch1 f : sProp 𝕄) = cbP c 0 1024 f := by
  unfold inP cbP; rw [rowsOf_all]
omit [FloatOps F] [Named F] in
theorem rv_whole (c : Dev nD) (f : (⟨2, ![896, 1024]⟩ : Shape).Idx → F .bf16) : (inP c cc0_scratch2 f : sProp 𝕄) = rvP c 0 896 f := by
  unfold inP rvP; rw [rowsOf_all]
omit [FloatOps F] [Named F] in
theorem rv_back (c : Dev nD) {f g h : (⟨2, ![896, 1024]⟩ : Shape).Idx → F .bf16} :
    iprop(rvP c 0 512 f ∗ rvP c 512 256 g ∗ rvP c 768 128 h) ⊢ iprop(∃ f, inP c cc0_scratch2 f) := by
  iintro ⟨H0, H1, H2⟩
  ihave H := (rv_join (c := c) (a := 512) (n := 256) (k := 128)) $$ [H1 H2]
  · isplitl [H1] <;> iassumption
  icases H with ⟨%g', H⟩
  ihave H := (rv_join (c := c) (a := 0) (n := 512) (k := 384)) $$ [H0 H]
  · isplitl [H0] <;> iassumption
  icases H with ⟨%f', H⟩
  iexists f'
  rw [rv_whole]; iexact H

theorem row_zero {h : 0 + 1024 ≤ 1024} (j : (⟨2, ![1024, 1024]⟩ : Shape).Idx) : (rowAt 0 h j : (⟨2, ![1024, 1024]⟩ : Shape).Idx) = j := by
  funext d
  match d with
  | ⟨0, _⟩ => exact Fin.ext (Nat.zero_add _)
  | ⟨1, _⟩ => rfl

/-! ## What a device starts from -/

omit [FloatOps F] [Named F] in
theorem bigSep15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- Its places at its own cells. -/
def ats (c : Dev nD) : sProp 𝕄 := bigSep Finset.univ fun k : Fin 15 => atPos ER (kcell (c, k)) 0 ∅ 0
/-- Its own cells, over. -/
def shut (c : Dev nD) : sProp 𝕄 := bigSep Finset.univ fun k : Fin 15 => semVal (kcell (c, k)) 0
/-- The payments it makes. -/
def payToks (c : Dev nD) : sProp 𝕄 :=
  iprop(dutyTok ER (kcell (pal 0 c, 0)) 0 0 ∗ dutyTok ER (kcell (pal 1 c, 0)) 0 1 ∗ dutyTok ER (kcell (pal 2 c, 0)) 0 2 ∗ dutyTok ER (kcell (c, 1)) 0 0 ∗ dutyTok ER (kcell (c, 2)) 0 0 ∗ dutyTok ER (kcell (c, 3)) 0 0 ∗ dutyTok ER (kcell (c, 4)) 0 0 ∗ dutyTok ER (kcell (c, 5)) 0 0 ∗ dutyTok ER (kcell (c, 6)) 0 0 ∗ dutyTok ER (kcell (c, 7)) 0 0 ∗ dutyTok ER (kcell (c, 8)) 0 0 ∗ dutyTok ER (kcell (pal 0 c, 9)) 0 0 ∗ dutyTok ER (kcell (pal 1 c, 10)) 0 0 ∗ dutyTok ER (kcell (pal 2 c, 11)) 0 0 ∗ dutyTok ER (kcell (pal 2 c, 12)) 0 0 ∗ dutyTok ER (kcell (pal 1 c, 13)) 0 0 ∗ dutyTok ER (kcell (pal 0 c, 14)) 0 0)
/-- What it is owed. -/
def credsOf (c : Dev nD) : sProp 𝕄 :=
  iprop(cred (tallyAt (kcell (c, 0)) () 3) ∗ cred (tallyAt (kcell (c, 9)) () (amt 9)) ∗ cred (tallyAt (kcell (c, 10)) () (amt 10)) ∗ cred (tallyAt (kcell (c, 11)) () (amt 11)) ∗ cred (tallyAt (kcell (c, 12)) () (amt 12)) ∗ cred (tallyAt (kcell (c, 13)) () (amt 13)) ∗ cred (tallyAt (kcell (c, 14)) () (amt 14)))

/-- The output block. -/
def outAt : (cc0_stg3_0 : Ref sig .tc).ty.Contents (Elt F) := k0_pay1 (fin m)

theorem wp_outStore {c : Dev nD} {X w : (cc0_stg3_0 : Ref sig .tc).ty.Contents (Elt F)} {inb hx hm}
    {α : Type} {Q : α → sProp 𝕄} {k : PUnit → Prog (TpuEff nD τ sig (Elt F) Λ₀ .tc) α} :
    inP c cc0_stg3_0 X ⊢ iprop((inP c cc0_stg3_0 w -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_stg3_0 : Memref sig .tc .vmem S1x1024x1024 .f32) (Rect.unit (s := S1x1024x1024) ![0, 0, 0] S1x1024x1024.size inb) w Finset.univ hx hm) k) Q) := by
  have e : ((Memref.whole cc0_stg3_0 : Memref sig .tc .vmem S1x1024x1024 .f32).access (Rect.unit (s := S1x1024x1024) ![0, 0, 0] S1x1024x1024.size inb) : View sig .tc _ _ _).write (Elt F) X w Finset.univ = w :=
    Memref.write_access_unit_zero_univ (Elt F) cc0_stg3_0 hz3 inb X w
  have H := wp_store (defs := defs₀ (F := F)) (Γ := PendingWaitsCtx.empty) 𝒱₀ (c : Thread nD τ) none Set.univ (m := (Memref.whole cc0_stg3_0 : Memref sig .tc .vmem S1x1024x1024 .f32))
    (r := Rect.unit (s := S1x1024x1024) ![0, 0, 0] S1x1024x1024.size inb) (w := w) (Mk := Finset.univ) (hx := hx) (hm := hm) (k := k) (Q := Q) (S := Finset.univ) (f := X) (Finset.subset_univ _)
  rw [e] at H
  exact H

theorem run32 (c : Dev nD) (v4 v71 v88 : BitVec 32) {f : CB F} (Kt : (Σ' (v89 : BitVec 32) (v91 : BitVec 32), BitVec 32) → sProp 𝕄) :
    iprop(cx m K ∗ owing c (l9 c) ∗ cbP c 0 1024 f ∗ barPay c 0 ∗ dutyTok ER (kcell (c, 3)) 0 0 ∗ dutyTok ER (kcell (pal 0 c, 9)) 0 0
        ∗ (∀ a b d, (owing c (l10 c) ∗ cbP c (keep 0 c) 512 (part m c) ∗ cred (tallyAt (kcell (c, 3)) () (amt 3))) -∗ Kt ⟨a, b, d⟩))
      ⊢ wp frame (wpE (defs₀ (F := F)) 𝒱₀ (c : Thread nD τ) none) Set.univ (k0_part32 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v4 (qAt m c) (kAt m c) (vAt m c) (woAt m c) (xbit (place c)) v71 v88) Kt := by
  rw [xbit_eq]
  have h : bx c = 0 ∨ bx c = 1 := by revert c; decide
  rcases h with h | h
  · have e : BitVec.ofNat 32 (bx c) = 0#32 := by rw [h]
    rw [e]; exact run32_0 m K c h v4 v71 v88 Kt
  · have e : BitVec.ofNat 32 (bx c) = 1#32 := by rw [h]
    rw [e]; exact run32_1 m K c h v4 v71 v88 Kt

set_option maxHeartbeats 8000000 in
/-- The body runs from what the device starts with to the finished sum in its output block, everything else handed back. -/
theorem run_body (c : Dev nD) {fo fkv} {fcb : CB F} {frv : (⟨2, ![896, 1024]⟩ : Shape).Idx → F .bf16} (Kt : PUnit → sProp 𝕄) :
    iprop(cx m K ∗ ats c ∗ payToks c ∗ credsOf c ∗ owing c (duesL c) ∗ inP c cc0_stg0_0 (xStg m c) ∗ inP c cc0_stg1_0 (wqStg m c) ∗ inP c cc0_stg2_0 (woStg m c) ∗ inP c cc0_stg3_0 fo ∗ inP c main_arg2 (m ((c : Thread nD τ).loc main_arg2)) ∗ inP c main_arg3 (m ((c : Thread nD τ).loc main_arg3))
        ∗ inP c cc0_scratch0 fkv ∗ inP c cc0_scratch1 fcb ∗ inP c cc0_scratch2 frv
        ∗ ((owing c [] ∗ shut c ∗ inP c cc0_stg0_0 (xStg m c) ∗ inP c cc0_stg1_0 (wqStg m c) ∗ inP c cc0_stg2_0 (woStg m c) ∗ inP c cc0_stg3_0 (outAt m) ∗ inP c main_arg2 (m ((c : Thread nD τ).loc main_arg2)) ∗ inP c main_arg3 (m ((c : Thread nD τ).loc main_arg3))
            ∗ (∃ f, inP c cc0_scratch0 f) ∗ (∃ f, inP c cc0_scratch1 f) ∗ (∃ f, inP c cc0_scratch2 f)) -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Kt := by
  simp only [cc0_body_eq_skeleton]; unfold cc0_body_skel
  simp only [wp_bind]
  unfold ats payToks credsOf
  rw [bigSep15, cb_whole, rv_whole]
  iintro ⟨#HC, ⟨Ha0, Ha1, Ha2, Ha3, Ha4, Ha5, Ha6, Ha7, Ha8, Ha9, Ha10, Ha11, Ha12, Ha13, Ha14⟩, ⟨Ht0, Ht1, Ht2, Ht3, Ht4, Ht5, Ht6, Ht7, Ht8, Ht9, Ht10, Ht11, Ht12, Ht13, Ht14, Ht15, Ht16⟩, ⟨Hc0, Hc9, Hc10, Hc11, Hc12, Hc13, Hc14⟩, HO, Hx, Hq, Hw, Hout, Hk2, Hv3, Hkv, Hcb, Hrv, Hk⟩
  ihave #HR := (cx_rec m K) $$ HC
  ihave #HL := (cx_lev m K) $$ HC
  ihave Hkv := (kv_split c fkv) $$ Hkv
  icases Hkv with ⟨Hkd, Hvd, Hkvr⟩
  ihave Hk2 := (k_split m c) $$ Hk2
  icases Hk2 with ⟨Hks, Hkr⟩
  ihave Hv3 := (v_split m c) $$ Hv3
  icases Hv3 with ⟨Hvs, Hvr⟩
  iapply (run29 m K c _)
  isplitr; · iexact HC
  isplitl [HO]; · iexact HO
  isplitl [Ht0]; · iexact Ht0
  isplitl [Ht1]; · iexact Ht1
  isplitl [Ht2]; · iexact Ht2
  isplitl [Hc0]; · iexact Hc0
  isplitl [Ha0]; · iexact Ha0
  isplitl [Hrv]; · iexact Hrv
  isplitl [Hks]; · iexact Hks
  isplitl [Hkd]; · iexact Hkd
  isplitl [Ht3]; · iexact Ht3
  iintro %a0 %a1 %a2 ⟨HO, Ha0, Hb0, Hb1, Hb2, Hc1⟩
  dsimp only
  iapply (run30 m K c _)
  isplitr; · iexact HC
  isplitl [HO]; · iexact HO
  isplitl [Hvs]; · iexact Hvs
  isplitl [Hvd]; · iexact Hvd
  isplitl [Ht4]; · iexact Ht4
  isplitl [Hx]; · iexact Hx
  isplitl [Hq]; · iexact Hq
  isplitl [Hc1]; · iexact Hc1
  isplitl [Ha1]; · iexact Ha1
  isplitl [Ha2]; · iexact Ha2
  iintro ⟨HO, Hx, Hq, Hkd, Hks, Hvd, Hvs, Ha1, Ha2⟩
  dsimp only
  iapply (run31 m c (place c) (k0_pay83 (kLd m c)) _)
  isplitl [Hvd]; · iexact Hvd
  isplitl [Hw]; · iexact Hw
  iintro %b0 %b1 ⟨Hvd, Hw⟩
  dsimp only
  iapply (run32 m K c a0 b0 b1 _)
  isplitr; · iexact HC
  isplitl [HO]; · iexact HO
  isplitl [Hcb]; · iexact Hcb
  isplitl [Hb0]; · iexact Hb0
  isplitl [Ht5]; · iexact Ht5
  isplitl [Ht11]; · iexact Ht11
  iintro %d0 %d1 %d2 ⟨HO, Hcb, Hc3⟩
  dsimp only
  iapply (run33 m K c _ _ _ _ _ _ _)
  isplitr; · iexact HC
  isplitl [HO]; · iexact HO
  isplitl [Hc3]; · iexact Hc3
  isplitl [Ha3]; · iexact Ha3
  isplitl [Hc9]; · iexact Hc9
  isplitl [Ha9]; · iexact Ha9
  isplitl [Hcb]; · iapply (Entails.of_eq (congrArg (cbP c (keep 0 c) 512) (run_zero m c).symm)); iexact Hcb
  isplitl [Hb1]; · iexact Hb1
  isplitl [Ht6]; · iexact Ht6
  isplitl [Ht12]; · iexact Ht12
  iintro ⟨HO, Ha3, Ha9, Hr0, Hg0, Hc4, Hcb⟩
  iapply (run34 m K c _ _ _ _)
  isplitr; · iexact HC
  isplitl [HO]; · iexact HO
  isplitl [Hc4]; · iexact Hc4
  isplitl [Ha4]; · iexact Ha4
  isplitl [Hc10]; · iexact Hc10
  isplitl [Ha10]; · iexact Ha10
  isplitl [Hcb]; · iexact Hcb
  isplitl [Hb2]; · iexact Hb2
  isplitl [Ht7]; · iexact Ht7
  isplitl [Ht13]; · iexact Ht13
  iintro ⟨HO, Ha4, Ha10, Hr1, Hg1, Hc5, Hcb⟩
  iapply (run35 m K c _ _ _)
  isplitr; · iexact HC
  isplitl [HO]; · iexact HO
  isplitl [Hc5]; · iexact Hc5
  isplitl [Ha5]; · iexact Ha5
  isplitl [Hc11]; · iexact Hc11
  isplitl [Ha11]; · iexact Ha11
  isplitl [Hcb]; · iexact Hcb
  isplitl [Ht8]; · iexact Ht8
  isplitl [Ht14]; · iexact Ht14
  iintro ⟨HO, Ha5, Ha11, Hr2, Hc6⟩
  iapply (run36 m K c _ _ _ _)
  isplitr; · iexact HC
  isplitl [HO]; · iexact HO
  isplitl [Hc6]; · iexact Hc6
  isplitl [Ha6]; · iexact Ha6
  isplitl [Hc12]; · iexact Hc12
  isplitl [Ha12]; · iexact Ha12
  isplitl [Hg1]; · iexact Hg1
  isplitl [Ht9]; · iexact Ht9
  isplitl [Ht15]; · iexact Ht15
  isplitl [Ha7]; · iexact Ha7
  isplitl [Hc13]; · iexact Hc13
  isplitl [Ha13]; · iexact Ha13
  iintro ⟨HO, Ha6, Ha12, Ha7, Ha13, Hcb⟩
  simp only [semSignalWord, semWaitWord, Prog.lift, Prog.bind_op, Prog.bind_ret, Prog.pure_eq_ret, wp_deviceId]
  icases Hg0 with ⟨%g, Hg⟩
  iapply (wp_gather m K 0 rfl (dev9_eq c) (off10_eq c) (by rfl) (by rfl)) $$ [Hcb Hg HO Ht10 Ht16]
  · isplitr; · iexact HR
    isplitl [Hcb]; · iexact Hcb
    isplitl [Hg]; · iexact Hg
    isplitl [HO]; · iexact HO
    isplitl [Ht10]; · iexact Ht10
    iexact Ht16
  iintro ⟨Hc8, HO⟩
  rw [wp_ret]; imodintro
  iapply (wp_land m K 8 (by decide) (by rfl) (by rfl) (fun x hx => absurd hx (List.not_mem_nil))) $$ [Hc8 HO Ha8]
  · isplitr; · iexact HR
    isplitr; · iexact HL
    isplitl [Hc8]; · iexact Hc8
    isplitl [HO] <;> iassumption
  iintro ⟨HO, Ha8, Hp⟩
  ihave Hp := (show pay m c 8 0 ⊢ cbP c (keep 0 c) 512 (fin m) from Entails.of_eq (pay_gSnd m 0 c 0)) $$ Hp
  irename Hp => Hq1
  rw [wp_ret]; imodintro
  iapply (wp_land m K 14 (by decide) (by rfl) (by rfl) (fun x hx => absurd hx (List.not_mem_nil))) $$ [Hc14 HO Ha14]
  · isplitr; · iexact HR
    isplitr; · iexact HL
    isplitl [Hc14]; · iexact Hc14
    isplitl [HO] <;> iassumption
  iintro ⟨HO, Ha14, Hp⟩
  ihave Hp := (show pay m c 14 0 ⊢ cbP c (give 0 c) 512 (fin m) from Entails.of_eq (pay_gRcv m 0 c 0)) $$ Hp
  ihave Hcb := (join0 (c := c) (f := fin m)) $$ [Hq1 Hp]
  · isplitl [Hq1]; · iexact Hq1
    iexact Hp
  rw [wp_ret]; imodintro
  iapply (wp_cb_load (a := 0) (n := 1024) rfl (by decide) ⟨le_rfl, le_rfl⟩) $$ Hcb
  iintro Hcb
  rw [wp_ret]; imodintro
  iapply wp_outIn $$ Hout; iintro Hout
  rw [wp_ret]; imodintro
  iapply wp_outStore $$ Hout; iintro Hout
  rw [wp_ret]; imodintro
  imod (close_at m K c 0) $$ [Ha0] with Hz0
  · isplitr; · iexact HR
    iexact Ha0
  imod (close_at m K c 1) $$ [Ha1] with Hz1
  · isplitr; · iexact HR
    iexact Ha1
  imod (close_at m K c 2) $$ [Ha2] with Hz2
  · isplitr; · iexact HR
    iexact Ha2
  imod (close_at m K c 3) $$ [Ha3] with Hz3
  · isplitr; · iexact HR
    iexact Ha3
  imod (close_at m K c 4) $$ [Ha4] with Hz4
  · isplitr; · iexact HR
    iexact Ha4
  imod (close_at m K c 5) $$ [Ha5] with Hz5
  · isplitr; · iexact HR
    iexact Ha5
  imod (close_at m K c 6) $$ [Ha6] with Hz6
  · isplitr; · iexact HR
    iexact Ha6
  imod (close_at m K c 7) $$ [Ha7] with Hz7
  · isplitr; · iexact HR
    iexact Ha7
  imod (close_at m K c 8) $$ [Ha8] with Hz8
  · isplitr; · iexact HR
    iexact Ha8
  imod (close_at m K c 9) $$ [Ha9] with Hz9
  · isplitr; · iexact HR
    iexact Ha9
  imod (close_at m K c 10) $$ [Ha10] with Hz10
  · isplitr; · iexact HR
    iexact Ha10
  imod (close_at m K c 11) $$ [Ha11] with Hz11
  · isplitr; · iexact HR
    iexact Ha11
  imod (close_at m K c 12) $$ [Ha12] with Hz12
  · isplitr; · iexact HR
    iexact Ha12
  imod (close_at m K c 13) $$ [Ha13] with Hz13
  · isplitr; · iexact HR
    iexact Ha13
  imod (close_at m K c 14) $$ [Ha14] with Hz14
  · isplitr; · iexact HR
    iexact Ha14
  ihave Hkv := (kv_join m c fkv) $$ [Hkd Hvd Hkvr]
  · isplitl [Hkd]; · iexact Hkd
    isplitl [Hvd] <;> iassumption
  ihave Hk2 := (k_join m c) $$ [Hks Hkr]
  · isplitl [Hks] <;> iassumption
  ihave Hv3 := (v_join m c) $$ [Hvs Hvr]
  · isplitl [Hvs] <;> iassumption
  ihave Hrv := (rv_back c) $$ [Hr0 Hr1 Hr2]
  · isplitl [Hr0]; · iexact Hr0
    isplitl [Hr1] <;> iassumption
  rw [wp_ret]; imodintro
  iapply Hk
  isplitl [HO]; · iexact HO
  isplitl [Hz0 Hz1 Hz2 Hz3 Hz4 Hz5 Hz6 Hz7 Hz8 Hz9 Hz10 Hz11 Hz12 Hz13 Hz14]
  · unfold shut; rw [bigSep15]
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    iexact Hz14
  isplitl [Hx]; · iexact Hx
  isplitl [Hq]; · iexact Hq
  isplitl [Hw]; · iexact Hw
  isplitl [Hout]; · iapply (Entails.of_eq (congrArg (inP c cc0_stg3_0) (congrArg k0_pay1 (funext fun j => congrArg (fin m) (row_zero j))))); iexact Hout
  isplitl [Hk2]; · iexact Hk2
  isplitl [Hv3]; · iexact Hv3
  isplitl [Hkv]; · iexact Hkv
  isplitl [Hcb]; · iexists (fin m); rw [cb_whole]; iexact Hcb
  iexact Hrv

end Cert.Halving

end
-- ==== Proof.Start.lean ====
/-
The start: the payments are made out to the devices that will make them, the cells are opened for all
devices at once, and each device is told what it is owed.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Cells and payments -/

theorem csem_injective : Function.Injective csem := fun a b h => by
  have := congrArg idxOf h
  rw [idxOf_csem, idxOf_csem] at this
  exact Option.some.inj this
theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells. -/
def allCells : Finset (GSem nD τ sig) := Finset.univ.map ⟨kcell, kcell_injective⟩

/-- The seventeen payments into a device's cells: which cell, which of its payments, and whose it is. -/
def tokK : Fin 17 → Fin 15 := ![0, 0, 0, 1, 2, 3, 4, 5, 6, 7, 8, 9, 10, 11, 12, 13, 14]
def tokD : Fin 17 → Fin 3 := ![0, 1, 2, 0, 0, 0, 0, 0, 0, 0, 0, 0, 0, 0, 0, 0, 0]
def mover : Fin 17 → (Dev nD ≃ Dev nD) :=
  ![palE 0, palE 1, palE 2, Equiv.refl _, Equiv.refl _, Equiv.refl _, Equiv.refl _, Equiv.refl _, Equiv.refl _, Equiv.refl _, Equiv.refl _,
    palE 0, palE 1, palE 2, palE 2, palE 1, palE 0]

theorem tok_pair : ∀ j j', tokK j = tokK j' → tokD j = tokD j' → j = j' := by decide

abbrev tokOf (cj : Dev nD × Fin 17) : GSem nD τ sig × ℕ × Fin 3 := (kcell (cj.1, tokK cj.2), 0, tokD cj.2)
theorem tokOf_injective : Function.Injective (tokOf : Dev nD × Fin 17 → GSem nD τ sig × ℕ × Fin 3) := by
  rintro ⟨c, j⟩ ⟨c', j'⟩ h
  have h0 : ((c, tokK j) : Dev nD × Fin 15) = (c', tokK j') := kcell_injective (congrArg Prod.fst h)
  have h1 : c = c' := congrArg Prod.fst h0
  have h2 : j = j' := tok_pair j j' (congrArg Prod.snd h0) (congrArg (fun x : GSem nD τ sig × ℕ × Fin 3 => x.2.2) h)
  rw [h1, h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The payments into the device's cells. -/
def toks (c : Dev nD) : sProp 𝕄 := bigSep Finset.univ fun j : Fin 17 => dutyTok ER (kcell (c, tokK j)) 0 (tokD j)

omit [FloatOps F] [Named F] in
theorem payToks_eq (c : Dev nD) : (payToks c : sProp 𝕄) = bigSep Finset.univ fun j : Fin 17 => dutyTok ER (kcell (mover j c, tokK j)) 0 (tokD j) :=
  by rw [bigSep_univ_eq_bigSepL [0, 1, 2, 3, 4, 5, 6, 7, 8, 9, 10, 11, 12, 13, 14, 15, 16] (by decide) (by decide)]; unfold payToks; rfl

omit [FloatOps F] [Named F] in
/-- Devices first or payments first. -/
theorem swapped (Φ : Dev nD → Fin 17 → sProp 𝕄) :
    (bigSep Finset.univ fun j : Fin 17 => bigSep Finset.univ fun c : Dev nD => Φ c j) = bigSep Finset.univ fun c : Dev nD => bigSep Finset.univ fun j : Fin 17 => Φ c j := by
  rw [← bigSep_univ_prod (fun x : Fin 17 × Dev nD => Φ x.2 x.1), ← bigSep_univ_prod (fun x : Dev nD × Fin 17 => Φ x.1 x.2)]
  exact (bigSep_univ_equiv (Equiv.prodComm (Fin 17) (Dev nD)) (fun x : Dev nD × Fin 17 => Φ x.1 x.2)).symm

omit [FloatOps F] [Named F] in
/-- Every payment goes to the device that makes it. -/
theorem toks_dealt : (bigSep Finset.univ fun c : Dev nD => (toks c : sProp 𝕄)) = bigSep Finset.univ fun c : Dev nD => payToks c := by
  rw [bigSep_congr (s := Finset.univ) (fun (c : Dev nD) _ => payToks_eq (F := F) c)]
  unfold toks
  rw [← swapped, ← swapped]
  exact bigSep_congr fun j _ => (bigSep_univ_equiv (mover j) (fun c : Dev nD => (dutyTok ER (kcell (c, tokK j)) 0 (tokD j) : sProp 𝕄)))

/-! ## Opening the cells -/

def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)
def G' (c : Dev nD) : sProp 𝕄 := iprop(∃ K, records m K ∗ ats c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own semaphores: every cell but the barrier. -/
abbrev osem : Fin 14 → SemLoc sig := fun k => csem k.succ
theorem ownSemFacts : Pipeline.OwnSemFacts cfg0.spec osem := by decide

omit [FloatOps F] [Named F] in
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0) := by
  rw [Pipeline.ownSems0_eq_of_list c osem [0, 1, 2, 3, 4, 5, 6, 7, 8, 9, 10, 11, 12, 13] (by decide) (by decide)]; rfl
omit [FloatOps F] [Named F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] [Named F] in
theorem shut_eq (c : Dev nD) : iprop(unscopedSems0 c ∗ Pipeline.ownSems0 (Ix := Unit) (Name := ℕ) (U := UU) (Lvl := ℕ) (Val := Elt F) (τ := τ) osem c) = (shut c : sProp 𝕄) := by
  unfold shut; rw [ownSems0_eq, unscopedSems0_eq, bigSep15]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 15 => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c) := by
  unfold G
  iintro ⟨Hos, Hus, Hst, Hat, Htok⟩
  ihave Hv := (Entails.of_eq (shut_eq (F := F) c)) $$ [Hos Hus]
  · isplitl [Hus] <;> iassumption
  unfold shut
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k : Fin 15 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem deal (K : Dev nD × Fin 15 → ℕ) : iprop(records m K ∗ bigSep Finset.univ fun c : Dev nD => iprop(ats c ∗ payToks c)) ⊢ bigSep Finset.univ (G' m) := by
  have h (c : Dev nD) : iprop(records m K ∗ ats c ∗ payToks c) ⊢ G' m c := by
    unfold G'
    iintro H
    iexists K
    iexact H
  refine (sep_mono_left (BI.bigSep_of_persistent (Finset.univ : Finset (Dev nD)) (records m K))).trans ?_
  rw [← bigSep_sep']
  exact bigSep_mono fun c _ => h c

theorem regroup :
    (bigSep Finset.univ fun c : Dev nD => iprop((bigSep Finset.univ fun k : Fin 15 => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' (I := Fin 15) (Finset.univ : Finset (Fin 15)) (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄)), toks_dealt]
  iintro ⟨HI, ⟨Hat, HR⟩, Htok⟩
  ihave HK := (BI.bigSep_exists_pi Finset.univ (fun (ck : Dev nD × Fin 15) (κ : ℕ) => (cellInv ER (sched m) κ (kcell ck) : sProp 𝕄))) $$ HI
  icases HK with ⟨%K, HI⟩
  iapply (deal m K)
  isplitl [HI HR]
  · unfold records; isplitl [HI] <;> iassumption
  iapply (Entails.of_eq (bigSep_sep' Finset.univ (fun c : Dev nD => (ats c : sProp 𝕄)) payToks).symm)
  isplitl [Hat]; · unfold ats; iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device is owed -/

/-- The dues as stages and cells: the same list at every device. -/
def plan : List (Fin 3 × Fin 15) := [(0, 0), (1, 0), (2, 0), (0, 9), (1, 10), (2, 11), (2, 12), (1, 13), (0, 14)]
theorem plan_dues (d : Dev nD) : duesL d = plan.map fun x => (pal x.1 d, x.2) := rfl

def credL (c : Dev nD) : List (Fin 3 × Fin 15) → sProp 𝕄
  | [] => iprop(emp)
  | x :: l => iprop(credL c l ∗ cred (tallyAt (kcell (c, x.2)) () (amt x.2)))

omit [FloatOps F] [Named F] in
theorem creds_list (c : Dev nD) (l : List (Fin 3 × Fin 15)) :
    (Pipeline.launchCred (fun d => oweL (l.map fun x => (pal x.1 d, x.2))) c : sProp 𝕄) ⊢ credL c l := by
  induction l with
  | nil => exact Entails.of_eq (Pipeline.launchCred_zero c)
  | cons x l ih =>
    have e : (fun d : Dev nD => oweL ((x :: l).map fun x => (pal x.1 d, x.2)))
        = fun d : Dev nD => oweL (l.map fun x => (pal x.1 d, x.2)) + tallyAt (kcell (pal x.1 d, x.2)) () (amt x.2) := by
      funext d; rw [List.map_cons, oweL]
    rw [e, Pipeline.launchCred_add]
    have h : (Pipeline.launchCred (fun d => tallyAt (kcell (pal x.1 d, x.2)) () (amt x.2)) c : sProp 𝕄) ⊢ cred (tallyAt (kcell (c, x.2)) () (amt x.2)) :=
      Pipeline.launchCred_tallyAt (csem x.2) (pal x.1) (pal x.1) (pal_pal x.1) (pal_pal x.1) () (amt x.2) c
    iintro ⟨H1, H2⟩
    unfold credL
    isplitl [H1]
    · iapply ih $$ H1
    iapply h $$ H2

omit [FloatOps F] [Named F] in
theorem three_creds (g : GSem nD τ sig) : (cred (tallyAt g () 3) : sProp 𝕄) = iprop(cred (tallyAt g () 1) ∗ cred (tallyAt g () 1) ∗ cred (tallyAt g () 1)) := by
  rw [show (tallyAt g () 3 : CellTallies nD τ sig Unit) = tallyAt g () 1 + (tallyAt g () 1 + tallyAt g () 1) from by rw [tallyAt_add, tallyAt_add],
    BI.Entails.antisymm (cred_add _ _).1 (cred_add _ _).2, BI.Entails.antisymm (cred_add (tallyAt g () 1) (tallyAt g () 1)).1 (cred_add _ _).2]

omit [FloatOps F] [Named F] in
theorem creds (c : Dev nD) : (Pipeline.launchCred O₀ c : sProp 𝕄) ⊢ credsOf c := by
  refine (creds_list c plan).trans ?_
  unfold plan credL credL credL credL credL credL credL credL credL credL credsOf
  rw [three_creds]
  iintro ⟨⟨⟨⟨⟨⟨⟨⟨⟨-, H14⟩, H13⟩, H12⟩, H11⟩, H10⟩, H9⟩, Hc⟩, Hb⟩, Ha⟩
  isplitl [Ha Hb Hc]
  · isplitl [Ha]; · iexact Ha
    isplitl [Hb]; · iexact Hb
    iexact Hc
  isplitl [H9]; · iexact H9
  isplitl [H10]; · iexact H10
  isplitl [H11]; · iexact H11
  isplitl [H12]; · iexact H12
  isplitl [H13]; · iexact H13
  iexact H14

end Cert.Halving

end
-- ==== Proof.Launch.lean ====
/-
The run of the whole program: every device's result array holds the finished sum, its arguments hold what they
held, and every counter is zero.
-/
module

public import proofs.«01_k».proof.Proof.Start
public import Idealize.ShloMosaic.Lib.Pipeline.CollectiveSegs

@[expose] public section

noncomputable section

namespace Cert.Halving

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- The two arguments the kernel copies from, as they were. -/
def kvArgs (c : Dev nD) : sProp 𝕄 :=
  iprop(inP c main_arg2 (m ((c : Thread nD τ).loc main_arg2)) ∗ inP c main_arg3 (m ((c : Thread nD τ).loc main_arg3)))
/-- The kernel's three scratch buffers, at some contents. -/
def scratches (c : Dev nD) : sProp 𝕄 :=
  iprop((∃ f, inP c cc0_scratch0 f) ∗ (∃ f, inP c cc0_scratch1 f) ∗ (∃ f, inP c cc0_scratch2 f))
/-- What a device starts from. -/
def start (c : Dev nD) : sProp 𝕄 := iprop(G' m c ∗ credsOf c ∗ levAts L lv ∗ kvArgs m c)

/-- The region's data: the windows' arrays as launched, what their staging buffers hold after the body, and what a
    device has and owes before and after it. -/
def dats (_ : Fin 1) (c : Dev nD) : Dat τ (Elt F) Unit ℕ UU ℕ cfg0 c where
  A w := m ((cfg0.win w).arr.view.loc (c : Thread nD τ))
  after w _ := match w with
    | ⟨0, _⟩ => xStg m c
    | ⟨1, _⟩ => wqStg m c
    | ⟨2, _⟩ => woStg m c
    | ⟨3, _⟩ => outAt m
  Φ t := match t with
    | ⟨0, _⟩ => iprop(start m c ∗ scratches c)
    | ⟨_ + 1, _⟩ => iprop(shut c ∗ kvArgs m c ∗ scratches c)
  q _ := fullShare
  owed t := match t with
    | ⟨0, _⟩ => O₀ c
    | ⟨_ + 1, _⟩ => oweL []

omit [FloatOps F] [Named F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ inP c b f) := by
  unfold owns; simp only [Memref.view_whole, View.read_whole, View.set_whole]; rfl

/-- A staging buffer at given contents. -/
def held (c : Dev nD) (b : Ref sig .tc) (X : b.ty.Contents (Elt F)) : sProp 𝕄 :=
  iprop(∃ f : Buf (Elt F) ((c : Thread nD τ).loc b), ⌜f = X⌝ ∗ inP c b f)

def before (c : Dev nD) : sProp 𝕄 :=
  iprop((start m c ∗ scratches c) ∗ (dats m 0 c).owesAt () t0_0.castSucc
    ∗ (∃ d, held c cc0_stg0_0 ((dats m 0 c).before (0 : Fin 4) t0_0 d)) ∗ (∃ d, held c cc0_stg1_0 ((dats m 0 c).before (1 : Fin 4) t0_0 d))
    ∗ (∃ d, held c cc0_stg2_0 ((dats m 0 c).before (2 : Fin 4) t0_0 d)) ∗ (∃ d, held c cc0_stg3_0 ((dats m 0 c).before (3 : Fin 4) t0_0 d)))
def after (c : Dev nD) : sProp 𝕄 :=
  iprop((shut c ∗ kvArgs m c ∗ scratches c) ∗ (dats m 0 c).owesAt () t0_0.succ
    ∗ held c cc0_stg0_0 (xStg m c) ∗ held c cc0_stg1_0 (wqStg m c) ∗ held c cc0_stg2_0 (woStg m c) ∗ held c cc0_stg3_0 (outAt m))

theorem before_x (c : Dev nD) (d) : (dats m 0 c).before (0 : Fin 4) t0_0 d = xStg m c := rfl
theorem before_q (c : Dev nD) (d) : (dats m 0 c).before (1 : Fin 4) t0_0 d = wqStg m c := rfl
theorem before_w (c : Dev nD) (d) : (dats m 0 c).before (2 : Fin 4) t0_0 d = woStg m c := rfl

set_option maxRecDepth 8000 in
set_option maxHeartbeats 1000000 in
theorem body_ok (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_whole]
  show before m c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) (fun _ => after m c)
  unfold before start G' held scratches
  simp only [before_x, before_q, before_w]
  iintro ⟨⟨⟨⟨%K, Hrec, Hat, Hpay⟩, Hcr, Hlev, Hkv⟩, ⟨%f0, Hs0⟩, ⟨%f1, Hs1⟩, ⟨%f2, Hs2⟩⟩, HO, ⟨%z0, %g0, %e0, H0⟩, ⟨%z1, %g1, %e1, H1⟩, ⟨%z2, %g2, %e2, H2⟩, ⟨%z3, %g3, -, H3⟩⟩
  subst e0 e1 e2
  unfold Dat.owesAt Pipeline.owesWithin
  icases HO with ⟨%W, -, HO⟩
  unfold kvArgs
  icases Hkv with ⟨Hk, Hv⟩
  iapply (run_body m K c (fo := g3) (fkv := f0) (fcb := f1) (frv := f2) fun _ => after m c)
  isplitl [Hrec Hlev]
  · unfold cx; isplitl [Hrec] <;> iassumption
  isplitl [Hat]; · iexact Hat
  isplitl [Hpay]; · iexact Hpay
  isplitl [Hcr]; · iexact Hcr
  isplitl [HO]; · unfold owing; iexists W; iexact HO
  isplitl [H0]; · iexact H0
  isplitl [H1]; · iexact H1
  isplitl [H2]; · iexact H2
  isplitl [H3]; · iexact H3
  isplitl [Hk]; · iexact Hk
  isplitl [Hv]; · iexact Hv
  isplitl [Hs0]; · iexact Hs0
  isplitl [Hs1]; · iexact Hs1
  isplitl [Hs2]; · iexact Hs2
  iintro ⟨HO, Hsh, H0, H1, H2, H3, Hk, Hv, Hs⟩
  unfold after kvArgs scratches held Dat.owesAt Pipeline.owesWithin owing
  icases HO with ⟨%W', HO⟩
  isplitl [Hsh Hk Hv Hs]
  · isplitl [Hsh]; · iexact Hsh
    isplitl [Hk Hv]
    · isplitl [Hk]; · iexact Hk
      iexact Hv
    iexact Hs
  isplitl [HO]
  · iexists W'
    isplitr; · ipureintro; exact fun _ _ => Or.inl trivial
    iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr; · ipureintro; rfl
  iexact H3

/-! ## The launch -/

variable (ρ : Dev nD → PrngReg)

theorem share_full (c : Dev nD) (w : Fin cfg0.W) : (dats m 0 c).share w = fullShare := by unfold Dat.share; split <;> rfl

theorem start_intro (c : Dev nD) (r) :
    iprop(Pipeline.unscopedRestP Pipeline.Prefetch.none cfg0.spec c (fun b => m ((c : Thread nD τ).loc b)) ∗ levAts L lv ∗ Pipeline.launchCred O₀ c ∗ prngReg c r ∗ G' m c)
      ⊢ |={Set.univ}=> iprop(start m c ∗ emp) := by
  rw [Pipeline.unscopedRestP_none, unscopedRest0_eq]
  iintro ⟨Hkv, Hlev, Hcr, -, HG⟩
  ihave Hc := (creds (F := F) c) $$ Hcr
  imodintro
  unfold start kvArgs
  isplitl
  · isplitl [HG]; · iexact HG
    isplitl [Hc]; · iexact Hc
    isplitl [Hlev]; · iexact Hlev
    iexact Hkv
  · iempintro

theorem enter (c : Dev nD) :
    iprop(start m c ∗ Pipeline.prefHeld Pipeline.Prefetch.none c (fun _ => fullShare.right) (fun k => k.elim0) ∗ Pipeline.scopedRest cfg0.spec c) ⊢ (dats m 0 c).Φ 0 := by
  rw [show (dats m 0 c).Φ 0 = iprop(start m c ∗ scratches c) from rfl, scopedRest0_eq]
  unfold scratches
  iintro ⟨Hs, -, Hr⟩
  isplitl [Hs]; · iexact Hs
  iexact Hr

theorem leave (c : Dev nD) :
    (dats m 0 c).Φ (Fin.last cfg0.N) ⊢ iprop((unscopedSems0 c ∗ kvArgs m c) ∗ Pipeline.ownSems0 osem c ∗ Pipeline.scopedRest cfg0.spec c) := by
  rw [show (dats m 0 c).Φ (Fin.last cfg0.N) = iprop(shut c ∗ kvArgs m c ∗ scratches c) from rfl, scopedRest0_eq, ← shut_eq]
  unfold scratches
  iintro ⟨⟨Hu, Ho⟩, Hkv, Hr⟩
  isplitl [Hu Hkv]
  · isplitl [Hu] <;> iassumption
  isplitl [Ho]; · iexact Ho
  iexact Hr

theorem plan_high : ∀ x ∈ plan, 0 < lvl x.2 := by decide
theorem dues_high (c : Dev nD) (x) (hx : x ∈ duesL c) : 0 < lvl x.2 := by
  rw [plan_dues] at hx
  obtain ⟨y, hy, rfl⟩ := List.mem_map.mp hx
  exact plan_high y hy
omit [FloatOps F] [Named F] in
theorem staging_low (w : Fin cfg0.W) (s) : (idxOf (SemLoc.dma ((cfg0.win w).sem s))).elim 0 lvl ≤ 0 := by
  fin_cases w <;> fin_cases s <;> decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_of c _ 0 (staging_low w s) (duesL c) (dues_high c)
    · exact mayWait_of c _ 0 (staging_low w s) [] (fun x hx => absurd hx (List.not_mem_nil))

/-- What the windows' arrays hold after the run. -/
def finalA (c : Dev nD) (w : Fin cfg0.W) : Buf (Elt F) ((cfg0.win w).arr.view.loc (c : Thread nD τ)) := (dats m 0 c).arrAt w cfg0.N

theorem read_kv (c : Dev nD) (s' : Phys nD τ sig (Elt F)) :
    iprop(kvArgs m c ∗ SI s') ⊢ |={Set.univ}=> iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') := by
  unfold kvArgs inP
  iintro ⟨⟨Hk, Hv⟩, HSI⟩
  icombine HSI Hk gives %h2
  icombine HSI Hv gives %h3
  imodintro
  isplitr; · ipureintro; exact ⟨Buf.eq_of_forall_mem_univ h2, Buf.eq_of_forall_mem_univ h3⟩
  iexact HSI

/-- What a run leaves in the memory of device `c`. -/
def Left (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_v1) = finalA m c (3 : Fin 4)

theorem left_of (c : Dev nD) (s : MemSt nD τ sig (Elt F)) (hw : ∀ w : Fin cfg0.W, s.mem ((cfg0.win w).arr.view.loc (c : Thread nD τ)) = finalA m c w)
    (h2 : s.mem ((c : Thread nD τ).loc main_arg2) = m ((c : Thread nD τ).loc main_arg2)) (h3 : s.mem ((c : Thread nD τ).loc main_arg3) = m ((c : Thread nD τ).loc main_arg3)) :
    Left m c s :=
  ⟨(hw (0 : Fin 4)).trans ((dats (F := F) m 0 c).arrAt_in (0 : Fin 4) rfl _), (hw (1 : Fin 4)).trans ((dats (F := F) m 0 c).arrAt_in (1 : Fin 4) rfl _), h2, h3,
    (hw (2 : Fin 4)).trans ((dats (F := F) m 0 c).arrAt_in (2 : Fin 4) rfl _), hw (3 : Fin 4)⟩

set_option maxRecDepth 8000 in
/-- From any memory, with every counter at zero: every weakly fair execution terminates, leaves every device's arguments
    as they were and its result array at the computed contents, and every counter at zero. -/
theorem run_main : θ_run defs (onTc (τ := τ) (main (F := F))) ⟨m, fun _ => 0, ρ⟩ (fun r => (∀ c : Dev nD, Left m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_ok m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ kvArgs m c)) (Z := fun _ => iprop(emp))
    (hX := fun c => start_intro m c (ρ c)) (hin := enter m) (hout := leave m)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨⟨Hu, Hkv⟩, -, HSI⟩
      imod (Pipeline.unscopedSems0_read (X := unscopedSems0 c) (c := c) fupd_intro s') $$ [Hu HSI] with ⟨%hs, HSI⟩
      · isplitl [Hu] <;> iassumption
      imod (read_kv m c s') $$ [Hkv HSI] with ⟨%hm, HSI⟩
      · isplitl [Hkv] <;> iassumption
      imodintro
      isplitr; · ipureintro; exact ⟨hs, hm⟩
      iexact HSI)
    (hQ := fun s h hs => ⟨fun c => left_of m c s (h c).1 (h c).2.2.2.1 (h c).2.2.2.2, sem_eq_zero hs fun c => (h c).2.2.1⟩)

end Cert.Halving

end
-- ==== Proof.Frames.lean ====
/- Every program runs, leaves its arguments as they were and every counter at zero; and what the name stands for. -/
module

public import proofs.«01_k».proof.Defs
public import proofs.«01_k».proof.Proof.Gen.ReferenceIdeal.Run
public import proofs.«01_k».proof.Proof.AtBits
public import proofs.«01_k».proof.Proof.Launch

@[expose] public section

noncomputable section

namespace Cert.Halving

open Idealize.ShloMosaic Idealize.ShloMosaic.TcCoe Idealize.SL.Sem

set_option maxRecDepth 65536 in
theorem kernel_run (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      (fun r => (∀ c : Dev Cert.KernelIdeal.nD, Left (F := Bits) m c r.2) ∧ r.2.sem = fun _ => 0) := by
  rw [← defs_eq]
  exact run_main (F := Bits) m ρ

theorem frame_kernel : Cert.quiescent_Kernel := fun m ρ _ =>
  (θ_run Cert.Kernel.defs _ _).mono (fun _ h => ⟨fun c => ⟨(h.1 c).1, (h.1 c).2.1, (h.1 c).2.2.1, (h.1 c).2.2.2.1, (h.1 c).2.2.2.2.1⟩, h.2⟩) (kernel_run m ρ)

theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem named_mask : Cert.preserves_Kernel_KernelIdeal := IdealRules.named_const.statement Cert.KernelIdeal.κ "mask" .f32 0xCE6E6B28#32 ⊥ rfl

end Cert.Halving

end
-- ==== Proof.Output.lean ====
/-
What the result array holds when the launch has ended.
-/
module

public import proofs.«01_k».proof.Proof.Launch
public import Idealize.ShloMosaic.Lib.Pipeline.ValueKit

@[expose] public section

set_option maxRecDepth 16384

noncomputable section

namespace Cert.Halving

open Cert.KernelIdeal Cert.KernelIdeal.Gen
open Idealize.ShloMosaic Idealize.ShloMosaic.TcCoe

variable (m : (ℓ : Loc nD τ sig) → Buf (Elt Ideal) ℓ)

theorem whole_out : Pipeline.Window.WholeAt (G := grid0) win0_3 (0 : Fin 1) := by
  refine ⟨by decide +kernel, fun t _ => Subsingleton.elim (α := Fin 1) _ _, fun a => ⟨rfl, ?_⟩⟩
  match a with
  | ⟨0, _⟩ => rfl
  | ⟨1, _⟩ => rfl
  | ⟨2, _⟩ => rfl

theorem finalA_eq (c : Dev nD) : finalA m c (3 : Fin 4) = (outAt m : (⟨3, ![1, 1024, 1024]⟩ : Shape).Idx → EReal) :=
  (dats m 0 c).arrAt_eq_of_after_last (3 : Fin 4) (0 : Fin 1) whole_out _ (fun j => rfl)

end Cert.Halving
end
-- ==== Proof.Near.lean ====
/-
The band of keys a query attends to, as the programs compute it on 32-bit integers.
-/
module

public import Idealize.ShloMosaic.Lib.Pointwise

@[expose] public section

noncomputable section

namespace Cert.Halving

open Idealize.ShloMosaic

/-- Two positions at most 128 apart. -/
abbrev near (a b : ℕ) : Prop := a ≤ b + 128 ∧ b ≤ a + 128

theorem near_bit (a b : ℕ) (ha : a < 1024) (hb : b < 1024) :
    IntOp.cmpi CmpIPredicate.sle (IntOp.absi (IntOp.subi (BitVec.ofNat 32 a) (BitVec.ofNat 32 b))) 128#32 = BitVec.ofBool (decide (near a b)) := by
  unfold IntOp.cmpi
  congr 1
  show BitVec.sle _ _ = _
  rw [Bool.eq_iff_iff, decide_eq_true_eq, BitVec.sle_iff_toInt_le]
  unfold IntOp.absi IntOp.subi near
  simp only [BitVec.msb_eq_toInt, decide_eq_true_eq]
  split <;> simp only [BitVec.toInt_neg, BitVec.toInt_sub, BitVec.toInt_ofNat'] at * <;> simp [Int.bmod] at * <;> omega

theorem select_near (p : Prop) [Decidable p] {α : Type} (x y : α) : Scalar.select (BitVec.ofBool (decide p)) x y = if p then x else y := by
  by_cases h : p <;> simp [Scalar.select, h]

end Cert.Halving
end
-- ==== Proof.Softmax.lean ====
/-
Sums of extended reals, and the two ways of forming an attention row: dividing each weight by the
sum of the weights after taking off the greatest score, or dividing the weighted sum once.
-/
module

public import Idealize.ShloMosaic.Lib.Pointwise

@[expose] public section

noncomputable section

namespace Cert.Halving

open Idealize.ShloMosaic

/-- A finite sum of reals, taken among the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes into a finite sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem bits_zero : Ideal.ofBits .f32 0x00000000#32 = (0 : EReal) := by simp [Ideal.ofBits, Ideal.ieee]
theorem bits_bot : Ideal.ofBits .f32 0xFF800000#32 = (⊥ : EReal) := by simp [Ideal.ofBits, Ideal.ieee]
theorem bits_top : Ideal.ofBits .f32 0x7F800000#32 = (⊤ : EReal) := by simp [Ideal.ofBits, Ideal.ieee]

/-- The scale of the scores, a real number. -/
theorem scale_real : ∃ r : ℝ, Ideal.ofBits .f32 0x3DB504F3#32 = (r : EReal) := by
  unfold Ideal.ofBits Ideal.ieee
  simp only []
  rw [if_neg (by decide), if_neg (by decide)]
  exact ⟨_, rfl⟩

/-- The greatest of real scores, some of them left out, is real as soon as one is kept. -/
theorem max_real {n : ℕ} (k : Fin n → Prop) [DecidablePred k] (s : Fin n → ℝ) (j₀ : Fin n) (h₀ : k j₀) :
    ∃ M : ℝ, Finset.fold max (⊥ : EReal) (fun j => if k j then ((s j : ℝ) : EReal) else ⊥) Finset.univ = (M : EReal) := by
  have hb : Finset.fold max (⊥ : EReal) (fun j => if k j then ((s j : ℝ) : EReal) else ⊥) Finset.univ ≠ ⊥ := by
    have : ((s j₀ : ℝ) : EReal) ≤ Finset.fold max (⊥ : EReal) (fun j => if k j then ((s j : ℝ) : EReal) else ⊥) Finset.univ :=
      (Finset.le_fold_max _).mpr (Or.inr ⟨j₀, Finset.mem_univ _, by rw [if_pos h₀]⟩)
    intro e
    rw [e] at this
    exact absurd (le_bot_iff.mp this) (EReal.coe_ne_bot _)
  have ht : Finset.fold max (⊥ : EReal) (fun j => if k j then ((s j : ℝ) : EReal) else ⊥) Finset.univ ≠ ⊤ := by
    apply ne_of_lt
    refine (Finset.fold_max_lt _).mpr ⟨bot_lt_top, fun j _ => ?_⟩
    by_cases hj : k j
    · rw [if_pos hj]; exact EReal.coe_lt_top _
    · rw [if_neg hj]; exact bot_lt_top
  lift Finset.fold max (⊥ : EReal) (fun j => if k j then ((s j : ℝ) : EReal) else ⊥) Finset.univ to ℝ using ⟨ht, hb⟩ with M
  exact ⟨M, rfl⟩

/-- The row as the kernel forms it. -/
def rowOnce {n : ℕ} (e v : Fin n → EReal) : EReal := (∑ j, e j * v j) * Ideal.div 1 (∑ j, e j)

/-- The row as the reference forms it, from scores that are `⊥` where the key is left out. -/
def rowEach {n : ℕ} (p v : Fin n → EReal) : EReal :=
  ∑ j, v j * Ideal.div (Ideal.exp (p j - Finset.fold max ⊥ p Finset.univ)) (∑ i, Ideal.exp (p i - Finset.fold max ⊥ p Finset.univ))

theorem row_eq {n : ℕ} (k : Fin n → Prop) [DecidablePred k] (s : Fin n → ℝ) (v : Fin n → EReal) (j₀ : Fin n) (h₀ : k j₀) :
    rowEach (fun j => if k j then ((s j : ℝ) : EReal) else ⊥) v
      = rowOnce (fun j => if k j then Ideal.exp ((s j : ℝ) : EReal) else 0) v := by
  obtain ⟨M, hM⟩ := max_real k s j₀ h₀
  unfold rowEach rowOnce
  rw [hM]
  have ex (j) : Ideal.exp ((if k j then ((s j : ℝ) : EReal) else ⊥) - (M : EReal))
      = (((if k j then Real.exp (s j) else 0) * (Real.exp M)⁻¹ : ℝ) : EReal) := by
    by_cases hj : k j
    · rw [if_pos hj, if_pos hj, ← EReal.coe_sub, Ideal.exp_coe, Real.exp_sub, div_eq_mul_inv]
    · rw [if_neg hj, if_neg hj, EReal.bot_sub, Ideal.exp_bot, zero_mul, EReal.coe_zero]
  have ek (j) : (if k j then Ideal.exp ((s j : ℝ) : EReal) else 0) = (((if k j then Real.exp (s j) else 0) : ℝ) : EReal) := by
    by_cases hj : k j
    · rw [if_pos hj, if_pos hj, Ideal.exp_coe]
    · rw [if_neg hj, if_neg hj, EReal.coe_zero]
  simp only [ex, ek]
  set a : Fin n → ℝ := fun j => if k j then Real.exp (s j) else 0 with ha
  have hA : 0 < ∑ j, a j := by
    refine Finset.sum_pos' (fun j _ => ?_) ⟨j₀, Finset.mem_univ _, ?_⟩
    · by_cases hj : k j
      · simp only [ha, if_pos hj]; exact (Real.exp_pos _).le
      · simp only [ha, if_neg hj]; exact le_refl _
    · simp only [ha, if_pos h₀]; exact Real.exp_pos _
  have hE : (0 : ℝ) < (Real.exp M)⁻¹ := inv_pos.mpr (Real.exp_pos M)
  rw [sum_coe, sum_coe, ← Finset.sum_mul, Ideal.div_coe hA.ne', one_mul, sum_mul_coe _ _ _ (by positivity)]
  refine Finset.sum_congr rfl fun j _ => ?_
  rw [Ideal.div_coe (mul_pos hA hE).ne', ← EReal.coe_mul, mul_comm (v j), mul_right_comm ((a j : ℝ) : EReal) (v j), ← EReal.coe_mul]
  congr 2
  field_simp
  rfl

end Cert.Halving
end
-- ==== Proof.Inputs.lean ====
/-
The arrays the kernel works on, element by element: what is staged or copied in, in terms of the
device's arguments.
-/
module

public import proofs.«01_k».proof.Proof.Contents
public import proofs.«01_k».proof.Proof.Near
public import proofs.«01_k».proof.Proof.Softmax
public import Idealize.ShloMosaic.Lib.Pipeline.ValueKit

@[expose] public section

set_option maxRecDepth 16384

noncomputable section

namespace Cert.Halving

open Cert.KernelIdeal Cert.KernelIdeal.Gen
open Idealize.ShloMosaic Idealize.ShloMosaic.TcCoe

variable (m : (ℓ : Loc nD τ sig) → Buf (Elt Ideal) ℓ)

theorem xStg_eq (c : Dev nD) : xStg m c = m ((c : Thread nD τ).loc main_arg0) := by
  funext j
  show m ((c : Thread nD τ).loc main_arg0) ((win0_0.rect (0 : Fin 1)).emb j) = _
  congr 1; funext a; apply Fin.ext
  exact Pipeline.Window.rect_emb_val_of_index_zero win0_0 (0 : Fin 1) a rfl j
theorem wqStg_eq (c : Dev nD) : wqStg m c = m ((c : Thread nD τ).loc main_arg1) := by
  funext j
  show m ((c : Thread nD τ).loc main_arg1) ((win0_1.rect (0 : Fin 1)).emb j) = _
  congr 1; funext a; apply Fin.ext
  exact Pipeline.Window.rect_emb_val_of_index_zero win0_1 (0 : Fin 1) a rfl j
theorem woStg_eq (c : Dev nD) : woStg m c = m ((c : Thread nD τ).loc main_arg4) := by
  funext j
  show m ((c : Thread nD τ).loc main_arg4) ((win0_2.rect (0 : Fin 1)).emb j) = _
  congr 1; funext a; apply Fin.ext
  exact Pipeline.Window.rect_emb_val_of_index_zero win0_2 (0 : Fin 1) a rfl j

/-- Head `h` of device `c` among all heads. -/
def headOf (c : Dev nD) (h : Fin 8) : Fin 64 := ⟨8 * c.val + h.val, by have h1 : c.val < 8 := c.isLt; have := h.isLt; omega⟩

theorem headRect_emb (c : Dev nD) (R : Fin 1024) (h : Fin 8) (d : Fin 128) :
    (headRect c).emb (ix4 (0 : Fin 1) R h d) = ix4 (0 : Fin 1) R (headOf c h) d := by
  have e : k0_off1 c = ![0, 0, 8 * c.val, 0] := by revert c; decide +kernel
  funext a; apply Fin.ext
  rw [Rect.emb_apply]
  show k0_off1 c a + 1 * _ = _
  rw [e]
  match a with
  | ⟨0, _⟩ => rfl
  | ⟨1, _⟩ => show 0 + 1 * R.val = R.val; omega
  | ⟨2, _⟩ => show 8 * c.val + 1 * h.val = 8 * c.val + h.val; omega
  | ⟨3, _⟩ => show 0 + 1 * d.val = d.val; omega

theorem kLd_at (c : Dev nD) (R : Fin 1024) (h : Fin 8) (d : Fin 128) :
    kLd m c (ix4 (0 : Fin 1) R h d) = m ((c : Thread nD τ).loc main_arg2) (ix4 (0 : Fin 1) R (headOf c h) d) :=
  congrArg (m ((c : Thread nD τ).loc main_arg2)) (headRect_emb c R h d)
theorem vLd_at (c : Dev nD) (R : Fin 1024) (h : Fin 8) (d : Fin 128) :
    vLd m c (ix4 (0 : Fin 1) R h d) = m ((c : Thread nD τ).loc main_arg3) (ix4 (0 : Fin 1) R (headOf c h) d) :=
  congrArg (m ((c : Thread nD τ).loc main_arg3)) (headRect_emb c R h d)

end Cert.Halving
end
-- ==== Proof.KernelRow.lean ====
/-
One row of a device's partial sum: the exponentials of the kept scores, the attention row of each
head over all keys (the window of 512 holds every kept key), and the eight heads added up.
-/
module

public import proofs.«01_k».proof.Proof.Inputs

@[expose] public section

set_option maxRecDepth 16384

noncomputable section

namespace Cert.Halving

open Cert.KernelIdeal Cert.KernelIdeal.Gen
open Idealize.ShloMosaic Idealize.ShloMosaic.TcCoe

/-- The mask constant's name stands for `⊥`. -/
theorem mask_bot : (Named.named κ "mask" 0xCE6E6B28#32 : Ideal .f32) = (⊥ : EReal) := IdealRules.named_const.ideal_named_scalar _ _ _ _ rfl

section
variable (q k v : S1024x8x128.Idx → EReal)

/-- The weight, not yet divided, of key `j` for query `R` in head `h`. -/
def wgt (R : Fin 1024) (h : Fin 8) (j : Fin 1024) : EReal :=
  if near R.val j.val then Ideal.exp (∑ d : Fin 128, q (ix3 R h d) * k (ix3 j h d)) else 0

theorem expBlk_at (qs ks : ℕ) (hqs : qs ≤ 768) (hks : ks ≤ 512) (h : Fin 8) (hq : S1024x8x128.Slices ![qs, h.val, 0] S256x1x128)
    (hk : S1024x8x128.Slices ![ks, h.val, 0] S512x1x128) (r : Fin 256) (j : Fin 512) :
    expBlk (F := Ideal) qs ks h.val hq hk q k (ix2 r j) = wgt q k ⟨qs + r.val, by omega⟩ h ⟨ks + j.val, by omega⟩ := by
  pointwise [expBlk, maskBlk]
  have hr : IntOp.addi (BitVec.ofNat 32 r.val) (BitVec.ofNat 32 qs) = BitVec.ofNat 32 (qs + r.val) := by
    show _ + _ = _; rw [← BitVec.ofNat_add, Nat.add_comm]
  have hj : IntOp.addi (BitVec.ofNat 32 j.val) (BitVec.ofNat 32 ks) = BitVec.ofNat 32 (ks + j.val) := by
    show _ + _ = _; rw [← BitVec.ofNat_add, Nat.add_comm]
  rw [hr, hj, near_bit _ _ (by omega) (by omega), select_near, mask_bot]
  unfold wgt
  by_cases hn : near (qs + r.val) (ks + j.val)
  · rw [if_pos hn, if_pos hn, add_zero]
  · rw [if_neg hn, if_neg hn, EReal.add_bot, Ideal.exp_bot]

/-- A sum over the window is the sum over all keys when the terms outside of it vanish. -/
theorem sum_window (ks : ℕ) (hks : ks ≤ 512) (f : Fin 1024 → EReal) (h0 : ∀ j : Fin 1024, (j.val < ks ∨ ks + 512 ≤ j.val) → f j = 0) :
    ∑ j : Fin 512, f ⟨ks + j.val, by omega⟩ = ∑ j : Fin 1024, f j := by
  have hi : Function.Injective (fun j : Fin 512 => (⟨ks + j.val, by omega⟩ : Fin 1024)) := fun a b e => by
    have := congrArg Fin.val e; apply Fin.ext; simp only at this; omega
  refine (Finset.sum_map Finset.univ ⟨_, hi⟩ f).symm.trans ?_
  refine Finset.sum_subset (Finset.subset_univ _) fun j _ hj => h0 j ?_
  by_contra hc
  apply hj
  rw [Finset.mem_map]
  exact ⟨⟨j.val - ks, by omega⟩, Finset.mem_univ _, Fin.ext (by show ks + (j.val - ks) = j.val; omega)⟩

/-- Head `h`'s row of the attention. -/
def ctx (R : Fin 1024) (h : Fin 8) (d : Fin 128) : EReal := rowOnce (wgt q k R h) fun j => v (ix3 j h d)

theorem ctxBlk_at (qs ks : ℕ) (hqs : qs ≤ 768) (hks : ks ≤ 512) (hlo : ks ≤ qs - 128) (hhi : qs + 384 ≤ ks + 512 ∨ ks = 512)
    (h : Fin 8) (hq : S1024x8x128.Slices ![qs, h.val, 0] S256x1x128)
    (hk : S1024x8x128.Slices ![ks, h.val, 0] S512x1x128) (r : Fin 256) (d : Fin 128) :
    ctxBlk (F := Ideal) qs ks h.val hq hk q k v (ix2 r d) = ctx q k v ⟨qs + r.val, by omega⟩ h d := by
  have out (j : Fin 1024) (hj : j.val < ks ∨ ks + 512 ≤ j.val) : wgt q k ⟨qs + r.val, by omega⟩ h j = 0 := by
    have := j.isLt
    exact if_neg fun hn => by obtain ⟨h1, h2⟩ := hn; simp only at h1 h2; omega
  pointwise [ctxBlk]
  simp only [expBlk_at q k qs ks hqs hks h hq hk]
  unfold ctx rowOnce
  rw [← sum_window ks hks (wgt q k ⟨qs + r.val, by omega⟩ h) out,
    ← sum_window ks hks (fun j => wgt q k ⟨qs + r.val, by omega⟩ h j * v (ix3 j h d)) (fun j hj => by rw [out j hj, zero_mul])]

/-- Row `R` of the partial sum at column `n`. -/
def rowOut (wo : S1024x1024.Idx → EReal) (R n : Fin 1024) : EReal :=
  ∑ h : Fin 8, ∑ d : Fin 128, ctx q k v R h d * wo (ix2 ⟨128 * h.val + d.val, by omega⟩ n)

theorem headAt_at (wo : S1024x1024.Idx → EReal) (qs ks : ℕ) (hqs : qs ≤ 768) (hks : ks ≤ 512) (hlo : ks ≤ qs - 128)
    (hhi : qs + 384 ≤ ks + 512 ∨ ks = 512) (h : ℕ) (hh : h < 8) (r : Fin 256) (n : Fin 1024) :
    headAt (F := Ideal) qs ks hqs hks q k v wo h hh (ix2 r n)
      = ∑ d : Fin 128, ctx q k v ⟨qs + r.val, by omega⟩ ⟨h, hh⟩ d * wo (ix2 ⟨128 * h + d.val, by omega⟩ n) := by
  pointwise [headBlk]
  refine Finset.sum_congr rfl fun d _ => ?_
  rw [ctxBlk_at q k v qs ks hqs hks hlo hhi ⟨h, hh⟩]

theorem blk_at (wo : S1024x1024.Idx → EReal) (qs ks : ℕ) (hqs : qs ≤ 768) (hks : ks ≤ 512) (hlo : ks ≤ qs - 128)
    (hhi : qs + 384 ≤ ks + 512 ∨ ks = 512) (r : Fin 256) (n : Fin 1024) :
    blk (F := Ideal) qs ks hqs hks q k v wo (ix2 r n) = rowOut q k v wo ⟨qs + r.val, by omega⟩ n := by
  pointwise [blk]
  simp only [headAt_at q k v wo qs ks hqs hks hlo hhi]
  unfold rowOut
  rw [Fin.sum_univ_eight]
  rfl
end

variable (m : (ℓ : Loc nD τ sig) → Buf (Elt Ideal) ℓ)

theorem part_at (c : Dev nD) (R n : Fin 1024) :
    part m c (ix2 R n) = rowOut (qAt m c) (kAt m c) (vAt m c) (woAt m c) R n := by
  have hb : R.val / 256 < 4 := by omega
  have hi : inBlk (ix2 R n) = ix2 (⟨R.val % 256, by omega⟩ : Fin 256) n := by
    funext a
    match a with
    | ⟨0, _⟩ => rfl
    | ⟨1, _⟩ => rfl
  show blkAt m c (R.val / 256) (inBlk (ix2 R n)) = _
  rw [hi]
  have hR (b : ℕ) (e : R.val / 256 = b) (h) : (⟨256 * b + R.val % 256, h⟩ : Fin 1024) = R := Fin.ext (by simp only; omega)
  rcases (by omega : R.val / 256 = 0 ∨ R.val / 256 = 1 ∨ R.val / 256 = 2 ∨ R.val / 256 = 3) with e | e | e | e <;> rw [e]
  · exact (blk_at _ _ _ _ 0 0 (by decide) (by decide) (by decide) (by decide) _ _).trans (by rw [hR 0 e])
  · exact (blk_at _ _ _ _ 256 128 (by decide) (by decide) (by decide) (by decide) _ _).trans (by rw [hR 1 e])
  · exact (blk_at _ _ _ _ 512 384 (by decide) (by decide) (by decide) (by decide) _ _).trans (by rw [hR 2 e])
  · exact (blk_at _ _ _ _ 768 512 (by decide) (by decide) (by decide) (by decide) _ _).trans (by rw [hR 3 e])

/-- The device's arguments, as arrays of extended reals. -/
abbrev argX (c : Dev nD) : S1x1024x1024.Idx → EReal := m ((c : Thread nD τ).loc main_arg0)
abbrev argQ (c : Dev nD) : S1024x1024.Idx → EReal := m ((c : Thread nD τ).loc main_arg1)
abbrev argK (c : Dev nD) : S1x1024x64x128.Idx → EReal := m ((c : Thread nD τ).loc main_arg2)
abbrev argV (c : Dev nD) : S1x1024x64x128.Idx → EReal := m ((c : Thread nD τ).loc main_arg3)
abbrev argO (c : Dev nD) : S1024x1024.Idx → EReal := m ((c : Thread nD τ).loc main_arg4)

theorem qAt_at (c : Dev nD) (R : Fin 1024) (h : Fin 8) (d : Fin 128) :
    qAt m c (ix3 R h d) = (∑ u : Fin 1024, argX m c (ix3 (0 : Fin 1) R u)
      * argQ m c (ix2 u (⟨h.val * 128 + d.val, by omega⟩ : Fin 1024))) * Ideal.ofBits .f32 0x3DB504F3#32 := by
  pointwise [qAt, k0_pay82]
  rw [xStg_eq, wqStg_eq]

theorem kAt_at (c : Dev nD) (R : Fin 1024) (h : Fin 8) (d : Fin 128) :
    kAt m c (ix3 R h d) = argK m c (ix4 (0 : Fin 1) R (headOf c h) d) := by
  pointwise [kAt, k0_pay84, k0_pay83]
  exact kLd_at m c R h d
theorem vAt_at (c : Dev nD) (R : Fin 1024) (h : Fin 8) (d : Fin 128) :
    vAt m c (ix3 R h d) = argV m c (ix4 (0 : Fin 1) R (headOf c h) d) := by
  pointwise [vAt, k0_pay85]
  exact vLd_at m c R h d
theorem woAt_at (c : Dev nD) (R n : Fin 1024) : woAt m c (ix2 R n) = argO m c (ix2 R n) := by
  pointwise [woAt, k0_pay86]
  rw [woStg_eq]

end Cert.Halving
end
-- ==== Proof.MeshSum.lean ====
/-
What the exchanges leave: every finished row is the sum over the eight devices.
-/
module

public import proofs.«01_k».proof.Proof.Body
public import proofs.«01_k».proof.Proof.KernelRow

@[expose] public section

noncomputable section

namespace Cert.Halving

open Cert.KernelIdeal Cert.KernelIdeal.Gen
open Idealize.ShloMosaic Idealize.ShloMosaic.TcCoe

variable (m : (ℓ : Loc nD τ sig) → Buf (Elt Ideal) ℓ)

/-- Three rounds of adding a partner's term reach every device once. -/
theorem cube_sum (f : Fin 8 → EReal) (c : Fin 8) :
    ((f c + f (pal 0 c)) + (f (pal 1 c) + f (pal 0 (pal 1 c))))
      + ((f (pal 2 c) + f (pal 0 (pal 2 c))) + (f (pal 1 (pal 2 c)) + f (pal 0 (pal 1 (pal 2 c))))) = ∑ d : Fin 8, f d := by
  rw [Fin.sum_univ_eight]
  have h : c = 0 ∨ c = 1 ∨ c = 2 ∨ c = 3 ∨ c = 4 ∨ c = 5 ∨ c = 6 ∨ c = 7 := by revert c; decide
  have e : ∀ (s : Fin 3) (d : Fin 8), pal s d = (![![1, 0, 3, 2, 5, 4, 7, 6], ![3, 2, 1, 0, 7, 6, 5, 4], ![4, 5, 6, 7, 0, 1, 2, 3]] : Fin 3 → Fin 8 → Fin 8) s d := by
    decide
  simp only [e]
  rcases h with rfl | rfl | rfl | rfl | rfl | rfl | rfl | rfl <;> simp <;> ac_rfl

theorem add1_eq (x y : EReal) : (add1 (F := Ideal) x y : EReal) = x + y := rfl

theorem run_three (c : Dev nD) (i : (⟨2, ![1024, 1024]⟩ : Shape).Idx) : run m 3 c i = ∑ d : Fin 8, (part m d i : EReal) := by
  simp only [run]
  exact cube_sum (fun d => part m d i) c

theorem outAt_at (R n : Fin 1024) : outAt m (ix3 (0 : Fin 1) R n) = ∑ d : Fin 8, (part m d (ix2 R n) : EReal) := by
  pointwise [outAt, k0_pay1]
  exact run_three m _ _

end Cert.Halving
end
-- ==== Proof.RefRow.lean ====
/-
The reference's result, element by element: for each output column the sum over all 8192 context
columns of an attention row times the output projection.
-/
module

public import proofs.«01_k».proof.Proof.Gen.ReferenceIdeal.Run
public import proofs.«01_k».proof.Proof.Near
public import proofs.«01_k».proof.Proof.Softmax

@[expose] public section

set_option maxRecDepth 16384

noncomputable section

namespace Cert.Halving.Ref

open Cert.ReferenceIdeal Cert.ReferenceIdeal.Gen Cert.ReferenceIdeal.Value
open Idealize.ShloMosaic Idealize.ShloMosaic.TcCoe

theorem near_bit' (a b : Fin 1024) :
    IntOp.cmpi CmpIPredicate.sle (IntOp.absi (IntOp.subi (BitVec.ofNat 32 a.val) (BitVec.ofNat 32 b.val))) 128#32
      = BitVec.ofBool (decide (near a.val b.val)) := near_bit _ _ a.isLt b.isLt

/-- Every query keeps a key, itself. -/
theorem some_kept (R : Fin 1024) :
    Finset.fold IntOp.ori (0#1) (fun j : Fin 1024 => BitVec.ofBool (decide (near R.val j.val))) Finset.univ = 1#1 := by
  have h : ∀ s : Finset (Fin 1024), R ∈ s →
      Finset.fold IntOp.ori (0#1) (fun j : Fin 1024 => BitVec.ofBool (decide (near R.val j.val))) s = 1#1 := by
    intro s
    induction s using Finset.induction_on with
    | empty => intro h; exact absurd h (Finset.notMem_empty _)
    | insert a s ha ih =>
      intro h
      rw [Finset.fold_insert ha]
      have o1 : ∀ x : BitVec 1, IntOp.ori x 1#1 = 1#1 := by decide
      have o2 : ∀ x : BitVec 1, IntOp.ori 1#1 x = 1#1 := by decide
      rcases Finset.mem_insert.mp h with e | e
      · subst e
        have : near R.val R.val := ⟨by omega, by omega⟩
        rw [decide_eq_true this]
        exact o2 _
      · rw [ih e, o1]
  exact h _ (Finset.mem_univ _)

variable (m : (ℓ : Loc nD τ sig) → Buf (Elt Ideal) ℓ)

/-- The arguments, as arrays of extended reals. -/
abbrev refX (c : Dev nD) : S1x1024x1024.Idx → EReal := m ((c : Thread nD τ).loc main_arg0)
abbrev refQ (c : Dev nD) : S1024x8192.Idx → EReal := m ((c : Thread nD τ).loc main_arg1)
abbrev refK (c : Dev nD) : S1x1024x64x128.Idx → EReal := m ((c : Thread nD τ).loc main_arg2)
abbrev refV (c : Dev nD) : S1x1024x64x128.Idx → EReal := m ((c : Thread nD τ).loc main_arg3)
abbrev refO (c : Dev nD) : S8192x1024.Idx → EReal := m ((c : Thread nD τ).loc main_arg4)

/-- The scaled score of key `j` for query `R` in head `H`. -/
def score (c : Dev nD) (R : Fin 1024) (H : Fin 64) (j : Fin 1024) : EReal :=
  (∑ t : Fin 128, (∑ u : Fin 1024, refX m c (ix3 (0 : Fin 1) R u) * refQ m c (ix2 u (⟨H.val * 128 + t.val, by omega⟩ : Fin 8192)))
    * refK m c (ix4 (0 : Fin 1) j H t)) * Ideal.ofBits .f32 0x3DB504F3#32

/-- The attention row of head `H` at dimension `d`. -/
def refCtx (c : Dev nD) (R : Fin 1024) (H : Fin 64) (d : Fin 128) : EReal :=
  rowEach (fun j : Fin 1024 => if near R.val j.val then score m c R H j else ⊥) fun j => refV m c (ix4 (0 : Fin 1) j H d)

theorem one_bit {α : Type} (x y : α) : Scalar.select 1#1 x y = x := rfl

theorem res_at (c : Dev nD) (R n : Fin 1024) : res_main_v34 m c (ix3 (0 : Fin 1) R n)
    = ∑ x : Fin 8192, refCtx m c R (⟨x.val / 128, by omega⟩ : Fin 64) (⟨x.val % 128, by omega⟩ : Fin 128) * refO m c (ix2 x n) := by
  pointwise [res_main_v34]
  have e : id (constant (F := Ideal) S_ FTy.f32 0xFF800000#32) ix0 = (⊥ : EReal) := bits_bot
  simp only [near_bit', select_near, some_kept, one_bit, e, bits_bot]
  rfl

end Cert.Halving.Ref
end
-- ==== Proof.Finite.lean ====
/-
What the precondition says: every activation, query weight and key is a real number.
-/
module

public import proofs.«01_k».proof.Proof.Gen.Pre_finite_scores_KernelIdeal
public import proofs.«01_k».proof.Proof.Softmax
public import Idealize.ShloMosaic.Lib.ReduceAll

@[expose] public section

noncomputable section

namespace Cert.Halving

open Cert.Pre_finite_scores_KernelIdeal
open Idealize.ShloMosaic

/-- An extended real below `⊤` in absolute value is real. -/
theorem real_of_abs (x : EReal) (h : Ideal.cmp CmpFPredicate.olt (max x (-x)) ⊤ = 1#1) : ∃ r : ℝ, x = (r : EReal) := by
  have h1 : BitVec.ofBool (decide (max x (-x) < ⊤)) = 1#1 := h
  have h2 : max x (-x) < ⊤ := by
    by_contra hc
    rw [decide_eq_false hc] at h1
    exact absurd h1 (by decide)
  obtain ⟨ha, hb⟩ := max_lt_iff.mp h2
  induction x using EReal.rec with
  | bot => exact absurd hb (by simp)
  | top => exact absurd ha (by simp)
  | coe r => exact ⟨r, rfl⟩

theorem finite_of (x : S1x1024x1024.Idx → EReal) (q : S1024x1024.Idx → EReal) (k v : S1x1024x64x128.Idx → EReal) (o : S1024x1024.Idx → EReal)
    (h : fn (F := Ideal) x q k v o = fun _ => 1#1) :
    (∀ i, ∃ r : ℝ, x i = (r : EReal)) ∧ (∀ i, ∃ r : ℝ, q i = (r : EReal)) ∧ ∀ i, ∃ r : ℝ, k i = (r : EReal) := by
  have h0 := congrFun h ix0
  obtain ⟨h1, hk⟩ := IntOp.andi_eq_one.1 h0
  obtain ⟨hx, hq⟩ := IntOp.andi_eq_one.1 h1
  haveI : Subsingleton S_.Idx := ⟨fun a b => funext fun i => i.elim0⟩
  refine ⟨fun i => ?_, fun i => ?_, fun i => ?_⟩
  · have e := Host.reduce_andi_all _ _ _ _ _ hx i
    pointwise at e
    rw [bits_top] at e
    exact real_of_abs _ e
  · have e := Host.reduce_andi_all _ _ _ _ _ hq i
    pointwise at e
    rw [bits_top] at e
    exact real_of_abs _ e
  · have e := Host.reduce_andi_all _ _ _ _ _ hk i
    pointwise at e
    rw [bits_top] at e
    exact real_of_abs _ e

end Cert.Halving
end
-- ==== Proof.Agree.lean ====
/-
The kernel's result is the reference's: the eight devices' heads are all the heads, and each row of
the attention is the same whether divided once or weight by weight.
-/
module

public import proofs.«01_k».proof.Proof.MeshSum
public import proofs.«01_k».proof.Proof.RefRow
public import proofs.«01_k».proof.Proof.Finite
public import Idealize.ShloMosaic.Lib.Layout

@[expose] public section

noncomputable section

namespace Cert.Halving

open Idealize.ShloMosaic Idealize.ShloMosaic.TcCoe

/-- A sum over `a b` places, in `a` runs of `b`. -/
theorem sum_runs (a b : ℕ) (f : ℕ → EReal) : ∑ x : Fin (a * b), f x.val = ∑ i : Fin a, ∑ j : Fin b, f (b * i.val + j.val) := by
  rw [← Fintype.sum_prod_type' (f := fun (i : Fin a) (j : Fin b) => f (b * i.val + j.val)), ← (finProdFinEquiv (m := a) (n := b)).sum_comp]
  refine Finset.sum_congr rfl fun p _ => congrArg f ?_
  show p.2.val + b * p.1.val = _
  omega

/-- A sum over the 8192 context columns: by device, head and dimension. -/
theorem sum_columns (f : Fin 8192 → EReal) :
    ∑ x, f x = ∑ c : Fin 8, ∑ h : Fin 8, ∑ d : Fin 128, f ⟨1024 * c.val + (128 * h.val + d.val), by omega⟩ := by
  let g : ℕ → EReal := fun x => if hx : x < 8192 then f ⟨x, hx⟩ else 0
  have hg (x : Fin 8192) : f x = g x.val := by
    show f x = dite _ _ _
    rw [dif_pos x.isLt]
  simp only [hg]
  refine (sum_runs 8 1024 g).trans (Finset.sum_congr rfl fun c _ => ?_)
  exact sum_runs 8 128 fun y => g (1024 * c.val + y)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel's arguments on each device are the reference's, or its block of them. -/
structure Same : Prop where
  x : ∀ c, argX m c = Ref.refX m' 0
  q : ∀ c, argQ m c = Layout.block ⟨2, ![1024, 1024]⟩ ⟨2, ![1024, 8192]⟩ 1 8 c (Ref.refQ m' 0)
  k : ∀ c, argK m c = Ref.refK m' 0
  v : ∀ c, argV m c = Ref.refV m' 0
  o : ∀ c, argO m c = Layout.block ⟨2, ![1024, 1024]⟩ ⟨2, ![8192, 1024]⟩ 0 8 c (Ref.refO m' 0)

/-- The inputs of the scores are real. -/
structure Finite : Prop where
  x : ∀ c i, ∃ r : ℝ, argX m c i = (r : EReal)
  q : ∀ c i, ∃ r : ℝ, argQ m c i = (r : EReal)
  k : ∀ c i, ∃ r : ℝ, argK m c i = (r : EReal)

variable {m m'}

theorem q_col (S : Same m m') (c : Fin 8) (u : Fin 1024) (h : Fin 8) (d : Fin 128) :
    argQ m c (ix2 u (⟨h.val * 128 + d.val, by omega⟩ : Fin 1024))
      = Ref.refQ m' 0 (ix2 u (⟨(headOf c h).val * 128 + d.val, by omega⟩ : Fin 8192)) := by
  rw [S.q c, Layout.block_apply]
  congr 1
  funext a; apply Fin.ext
  match a with
  | ⟨0, _⟩ => rfl
  | ⟨1, _⟩ =>
    show c.val * 1024 + (h.val * 128 + d.val) = (8 * c.val + h.val) * 128 + d.val
    omega

theorem o_row (S : Same m m') (c : Fin 8) (y n : Fin 1024) :
    argO m c (ix2 y n) = Ref.refO m' 0 (ix2 (⟨1024 * c.val + y.val, by omega⟩ : Fin 8192) n) := by
  rw [S.o c, Layout.block_apply]
  congr 1
  funext a; apply Fin.ext
  match a with
  | ⟨0, _⟩ =>
    show c.val * 1024 + y.val = 1024 * c.val + y.val
    omega
  | ⟨1, _⟩ => rfl

/-- The scores are real, and the kernel's are the reference's. -/
theorem scores (S : Same m m') (N : Finite m) (c : Fin 8) (R : Fin 1024) (h : Fin 8) (j : Fin 1024) :
    ∃ s : ℝ, Ref.score m' 0 R (headOf c h) j = (s : EReal) ∧ ∑ d : Fin 128, qAt m c (ix3 R h d) * kAt m c (ix3 j h d) = (s : EReal) := by
  choose x hx using N.x c
  choose q hq using N.q c
  choose k hk using N.k c
  obtain ⟨σ, hσ⟩ := scale_real
  refine ⟨(∑ d : Fin 128, (∑ u : Fin 1024, x (ix3 (0 : Fin 1) R u) * q (ix2 u (⟨h.val * 128 + d.val, by omega⟩ : Fin 1024)))
    * k (ix4 (0 : Fin 1) j (headOf c h) d)) * σ, ?_, ?_⟩
  · unfold Ref.score
    simp only [← q_col S c, ← S.x c, ← S.k c, hx, hq, hk, hσ, ← EReal.coe_mul, sum_coe]
  · simp only [qAt_at, kAt_at, hx, hq, hk, hσ, ← EReal.coe_mul, sum_coe]
    congr 1
    rw [Finset.sum_mul]
    exact Finset.sum_congr rfl fun d _ => by ring

theorem ctx_eq (S : Same m m') (N : Finite m) (c : Fin 8) (R : Fin 1024) (h : Fin 8) (d : Fin 128) :
    ctx (qAt m c) (kAt m c) (vAt m c) R h d = Ref.refCtx m' 0 R (headOf c h) d := by
  choose s hs ht using scores S N c R h
  unfold ctx Ref.refCtx
  have e1 : wgt (qAt m c) (kAt m c) R h = fun j : Fin 1024 => if near R.val j.val then Ideal.exp ((s j : ℝ) : EReal) else 0 := by
    funext j; unfold wgt; rw [ht]
  have e2 : (fun j : Fin 1024 => vAt m c (ix3 j h d)) = fun j : Fin 1024 => Ref.refV m' 0 (ix4 (0 : Fin 1) j (headOf c h) d) := by
    funext j; rw [vAt_at, S.v c]
  rw [e1, e2]
  simp only [hs]
  exact (row_eq (fun j : Fin 1024 => near R.val j.val) s _ R ⟨by omega, by omega⟩).symm

theorem row_sum (S : Same m m') (N : Finite m) (R n : Fin 1024) :
    ∑ c : Fin 8, (part m c (ix2 R n) : EReal)
      = ∑ x : Fin 8192, Ref.refCtx m' 0 R (⟨x.val / 128, by omega⟩ : Fin 64) (⟨x.val % 128, by omega⟩ : Fin 128) * Ref.refO m' 0 (ix2 x n) := by
  rw [sum_columns]
  refine Finset.sum_congr rfl fun c _ => ?_
  rw [part_at]
  unfold rowOut
  refine Finset.sum_congr rfl fun h _ => Finset.sum_congr rfl fun d _ => ?_
  rw [ctx_eq S N c, woAt_at, o_row S c]
  have e1 : (⟨(1024 * c.val + (128 * h.val + d.val)) / 128, by omega⟩ : Fin 64) = headOf c h :=
    Fin.ext (by show _ / 128 = 8 * c.val + h.val; omega)
  have e2 : (⟨(1024 * c.val + (128 * h.val + d.val)) % 128, by omega⟩ : Fin 128) = d := Fin.ext (by show _ % 128 = d.val; omega)
  simp only [e1, e2]

theorem result_eq (S : Same m m') (N : Finite m) :
    (outAt m : (⟨3, ![1, 1024, 1024]⟩ : Shape).Idx → EReal) = Cert.ReferenceIdeal.Value.res_main_v34 m' 0 := by
  funext i
  obtain ⟨z, R, n, rfl⟩ : ∃ (z : Fin 1) (R n : Fin 1024), i = ix3 z R n := ⟨i 0, i 1, i 2, eq_ix3 i⟩
  obtain rfl : z = 0 := Subsingleton.elim _ _
  exact (outAt_at m R n).trans ((row_sum S N R n).trans (Ref.res_at m' 0 R n).symm)

end Cert.Halving
end
-- ==== Proof.Algebraic.lean ====
/- The kernel and the reference, run exactly, end with the same array. -/
module

public import proofs.«01_k».proof.Proof.Frames
public import proofs.«01_k».proof.Proof.Output
public import proofs.«01_k».proof.Proof.Agree
public import proofs.«01_k».proof.Proof.Gen.Pre_finite_scores_ReferenceIdeal

@[expose] public section

noncomputable section

namespace Cert.Halving

open Idealize.ShloMosaic Idealize.ShloMosaic.TcCoe Idealize.SL.Sem

theorem frame_ideal_pre : Cert.quiescent_KernelIdeal_pre_finite_scores_KernelIdeal := fun m ρ _ => frame_ideal m ρ trivial

theorem frame_reference_pre : Cert.quiescent_ReferenceIdeal_pre_finite_scores_ReferenceIdeal := fun m ρ _ => frame_reference m ρ trivial

theorem same_result : Cert.algebraic_KernelIdeal_ReferenceIdeal_pre_finite_scores_KernelIdeal := by
  intro m g m' g' hpre hargs
  have S : Same m m' := ⟨fun c => (hargs c).1, fun c => (hargs c).2.1, fun c => (hargs c).2.2.1, fun c => (hargs c).2.2.2.1, fun c => (hargs c).2.2.2.2⟩
  have P (c) := finite_of (argX m c) (argQ m c) (argK m c) (argV m c) (argO m c) (hpre c)
  have N : Finite m := ⟨fun c => (P c).1, fun c => (P c).2.1, fun c => (P c).2.2⟩
  refine ⟨Cert.ReferenceIdeal.Value.res_main_v34 m' 0, ?_, ?_⟩
  · refine (θ_run Cert.KernelIdeal.defs _ _).mono (fun r h c => ?_) (run_main (F := Ideal) m g)
    obtain ⟨h0, h1, h2, h3, h4, hv⟩ := h.1 c
    exact ⟨(hv.trans (finalA_eq m c)).trans (result_eq S N), h0, h1, h2, h3, h4⟩
  · exact (θ_run Cert.ReferenceIdeal.defs _ _).mono (fun r h => h 0) (Cert.ReferenceIdeal.Value.run (F := Ideal) m' g')

end Cert.Halving

end
-- ==== Proof.lean ====
module

public import proofs.«01_k».proof.Defs
public import proofs.«01_k».proof.Proof.Frames
public import proofs.«01_k».proof.Proof.Algebraic
public import proofs.«01_k».proof.Proof.Gen.Pre_finite_scores_KernelIdeal
public import proofs.«01_k».proof.Proof.Gen.Pre_finite_scores_ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_scores_KernelIdeal.Gen.facts, Cert.Pre_finite_scores_ReferenceIdeal.Gen.facts,
  Cert.Halving.frame_kernel, Cert.Halving.frame_ideal, Cert.Halving.frame_ideal_pre, Cert.Halving.frame_reference, Cert.Halving.frame_reference_pre,
  Cert.Halving.named_mask, Cert.Halving.same_result⟩

end Cert.Proof

end
